-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cdf_sorted [hPre_cdf_sorted : Cert.Pre_cdf_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_cdf_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cdf_sorted [hPre_cdf_sorted : Cert.Pre_cdf_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cdf_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_cdf_sorted [hKernelIdeal : Cert.KernelIdeal.Facts] [hPre_cdf_sorted : Cert.Pre_cdf_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cdf_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_cdf_sorted [hReferenceIdeal : Cert.ReferenceIdeal.Facts] [hPre_cdf_sorted : Cert.Pre_cdf_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cdf_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_cdf_sorted [hKernelIdeal : Cert.KernelIdeal.Facts] [hReferenceIdeal : Cert.ReferenceIdeal.Facts] [hPre_cdf_sorted : Cert.Pre_cdf_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cdf_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_cdf_sorted : Cert.Pre_cdf_sorted.Facts),
    quiescent_Kernel (hKernel := hKernel)
    ∧ quiescent_KernelIdeal (hKernelIdeal := hKernelIdeal)
    ∧ quiescent_KernelIdeal_pre_cdf_sorted (hKernelIdeal := hKernelIdeal) (hPre_cdf_sorted := hPre_cdf_sorted)
    ∧ quiescent_ReferenceIdeal (hReferenceIdeal := hReferenceIdeal)
    ∧ quiescent_ReferenceIdeal_pre_cdf_sorted (hReferenceIdeal := hReferenceIdeal) (hPre_cdf_sorted := hPre_cdf_sorted)
    ∧ preserves_Kernel_KernelIdeal
    ∧ algebraic_KernelIdeal_ReferenceIdeal_pre_cdf_sorted (hKernelIdeal := hKernelIdeal) (hReferenceIdeal := hReferenceIdeal) (hPre_cdf_sorted := hPre_cdf_sorted)
-- ==== Pre_cdf_sorted.lean ====
abbrev S1048576 : Shape := ⟨1, ![1048576]⟩
abbrev S257 : Shape := ⟨1, ![257]⟩
abbrev S256 : Shape := ⟨1, ![256]⟩
abbrev S_ : Shape := ⟨0, ![]⟩

class Facts : Prop where
  slices_S257_S256_0 : S257.Slices ![0] S256
  slices_S257_S256_1 : S257.Slices ![1] S256
  reducesTo_S256_S_d0 : S256.ReducesTo [0] S_
  h_S_ : 0 < S_.numel

variable [Facts]

def fn {F : FTy → Type} [FloatOps F] (main_arg0 : FVec F S1048576 .f32) (main_arg1 : FVec F S1048576 .f32) (main_arg2 : FVec F S257 .f32) (main_arg3 : FVec F S256 .f32) : IVec S_ 1 :=
  let main_v0 : FVec F S256 .f32 := (extractStridedSlice S256 ![0] · slices_S257_S256_0) main_arg2
  let main_v1 : FVec F S256 .f32 := (extractStridedSlice S256 ![1] · slices_S257_S256_1) main_arg2
  let main_v2 : IVec S256 1 := cmpf .ole main_v0 main_v1
  let main_c : IVec S_ 1 := constantI S_ 1 1#1
  let main_v3 : IVec S_ 1 := (fun x v => Host.reduce IntOp.andi x v reducesTo_S256_S_d0 h_S_) main_v2 main_c
  main_v3
-- ==== Kernel.lean ====
abbrev S1048576 : Shape := ⟨1, ![1048576]⟩
abbrev S257 : Shape := ⟨1, ![257]⟩
abbrev S256 : Shape := ⟨1, ![256]⟩
abbrev S_ : Shape := ⟨0, ![]⟩
abbrev S255 : Shape := ⟨1, ![255]⟩
abbrev S512 : Shape := ⟨1, ![512]⟩
abbrev S32768 : Shape := ⟨1, ![32768]⟩
abbrev S16 : Shape := ⟨1, ![16]⟩

abbrev nBuf : Table → Nat
  | .hbm => 8
  | .local .scVector .vmem => 3
  | _ => 0

abbrev bufTy : (tb : Table) → Fin (nBuf tb) → BufTy
  | .hbm, ⟨0, _⟩ => ⟨S1048576, .f32⟩
  | .hbm, ⟨1, _⟩ => ⟨S1048576, .f32⟩
  | .hbm, ⟨2, _⟩ => ⟨S257, .f32⟩
  | .hbm, ⟨3, _⟩ => ⟨S256, .f32⟩
  | .hbm, ⟨4, _⟩ => ⟨S_, .f32⟩
  | .hbm, ⟨5, _⟩ => ⟨S255, .f32⟩
  | .hbm, ⟨6, _⟩ => ⟨S512, .f32⟩
  | .hbm, ⟨7, _⟩ => ⟨S1048576, .f32⟩
  | .local .scVector .vmem, ⟨0, _⟩ => ⟨S512, .f32⟩
  | .local .scVector .vmem, ⟨1, _⟩ => ⟨S32768, .f32⟩
  | .local .scVector .vmem, ⟨2, _⟩ => ⟨S32768, .f32⟩
  | _, _ => ⟨S1048576, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0_scv : Ref sig .scVector := ⟨.hbm, 0, rfl⟩
abbrev main_v1_scv : Ref sig .scVector := ⟨.hbm, 6, rfl⟩
abbrev main_v2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_0 : BitVec 32 := 0#32
  let c2048_i32 : BitVec 32 := 2048#32
  let v3 : BitVec 32 := Scalar.addi c0_i32_0 c2048_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v5 : Index := Scalar.indexCast v4
  ![v5.toNat]

def k0_chk1 (v10 : IVec S16 32) : Prop :=
  (∀ a x, ((![v10] : Fin 1 → IVec S16 32) a x).toNat < S512.size a)
theorem k0_idx1_inb : ∀ (v10 : IVec S16 32) (k0_hw1 : k0_chk1 v10), ∀ a x, ((![v10] : Fin 1 → IVec S16 32) a x).toNat < S512.size a := fun v10 k0_hw1 => k0_hw1

def k0_chk2 (v15 : IVec S16 32) : Prop :=
  (∀ a x, ((![v15] : Fin 1 → IVec S16 32) a x).toNat < S512.size a)
theorem k0_idx2_inb : ∀ (v15 : IVec S16 32) (k0_hw2 : k0_chk2 v15), ∀ a x, ((![v15] : Fin 1 → IVec S16 32) a x).toNat < S512.size a := fun v15 k0_hw2 => k0_hw2

def k0_chk3 (v20 : IVec S16 32) : Prop :=
  (∀ a x, ((![v20] : Fin 1 → IVec S16 32) a x).toNat < S512.size a)
theorem k0_idx3_inb : ∀ (v20 : IVec S16 32) (k0_hw3 : k0_chk3 v20), ∀ a x, ((![v20] : Fin 1 → IVec S16 32) a x).toNat < S512.size a := fun v20 k0_hw3 => k0_hw3

def k0_chk4 (v25 : IVec S16 32) : Prop :=
  (∀ a x, ((![v25] : Fin 1 → IVec S16 32) a x).toNat < S512.size a)
theorem k0_idx4_inb : ∀ (v25 : IVec S16 32) (k0_hw4 : k0_chk4 v25), ∀ a x, ((![v25] : Fin 1 → IVec S16 32) a x).toNat < S512.size a := fun v25 k0_hw4 => k0_hw4

def k0_chk5 (v30 : IVec S16 32) : Prop :=
  (∀ a x, ((![v30] : Fin 1 → IVec S16 32) a x).toNat < S512.size a)
theorem k0_idx5_inb : ∀ (v30 : IVec S16 32) (k0_hw5 : k0_chk5 v30), ∀ a x, ((![v30] : Fin 1 → IVec S16 32) a x).toNat < S512.size a := fun v30 k0_hw5 => k0_hw5

def k0_chk6 (v35 : IVec S16 32) : Prop :=
  (∀ a x, ((![v35] : Fin 1 → IVec S16 32) a x).toNat < S512.size a)
theorem k0_idx6_inb : ∀ (v35 : IVec S16 32) (k0_hw6 : k0_chk6 v35), ∀ a x, ((![v35] : Fin 1 → IVec S16 32) a x).toNat < S512.size a := fun v35 k0_hw6 => k0_hw6

def k0_chk7 (v40 : IVec S16 32) : Prop :=
  (∀ a x, ((![v40] : Fin 1 → IVec S16 32) a x).toNat < S512.size a)
theorem k0_idx7_inb : ∀ (v40 : IVec S16 32) (k0_hw7 : k0_chk7 v40), ∀ a x, ((![v40] : Fin 1 → IVec S16 32) a x).toNat < S512.size a := fun v40 k0_hw7 => k0_hw7

def k0_chk8 (v45 : IVec S16 32) : Prop :=
  (∀ a x, ((![v45] : Fin 1 → IVec S16 32) a x).toNat < S512.size a)
theorem k0_idx8_inb : ∀ (v45 : IVec S16 32) (k0_hw8 : k0_chk8 v45), ∀ a x, ((![v45] : Fin 1 → IVec S16 32) a x).toNat < S512.size a := fun v45 k0_hw8 => k0_hw8

def k0_chk9 (v50 : IVec S16 32) : Prop :=
  (∀ a x, ((![v50] : Fin 1 → IVec S16 32) a x).toNat < S512.size a)
theorem k0_idx9_inb : ∀ (v50 : IVec S16 32) (k0_hw9 : k0_chk9 v50), ∀ a x, ((![v50] : Fin 1 → IVec S16 32) a x).toNat < S512.size a := fun v50 k0_hw9 => k0_hw9

def k0_chk10 (v59 : IVec S16 32) : Prop :=
  (∀ a x, ((![v59] : Fin 1 → IVec S16 32) a x).toNat < S512.size a)
theorem k0_idx10_inb : ∀ (v59 : IVec S16 32) (k0_hw10 : k0_chk10 v59), ∀ a x, ((![v59] : Fin 1 → IVec S16 32) a x).toNat < S512.size a := fun v59 k0_hw10 => k0_hw10

def k0_chk11 (v62 : IVec S16 32) : Prop :=
  (∀ a x, ((![v62] : Fin 1 → IVec S16 32) a x).toNat < S512.size a)
theorem k0_idx11_inb : ∀ (v62 : IVec S16 32) (k0_hw11 : k0_chk11 v62), ∀ a x, ((![v62] : Fin 1 → IVec S16 32) a x).toNat < S512.size a := fun v62 k0_hw11 => k0_hw11
def k0_off3 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32_10 : BitVec 32 := 16#32
  let v76 : BitVec 32 := Scalar.muli arg8 c16_i32_10
  let v77 : Index := Scalar.indexCast v76
  ![v77.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576 : Shape := ⟨1, ![1048576]⟩
abbrev S257 : Shape := ⟨1, ![257]⟩
abbrev S256 : Shape := ⟨1, ![256]⟩
abbrev S1x257 : Shape := ⟨2, ![1, 257]⟩
abbrev S1048576x1 : Shape := ⟨2, ![1048576, 1]⟩
abbrev S1048576x257 : Shape := ⟨2, ![1048576, 257]⟩
abbrev S_ : Shape := ⟨0, ![]⟩
abbrev S1 : Shape := ⟨1, ![1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S257, .f32⟩
  | .hbm, ⟨3, _⟩ => ⟨S256, .f32⟩
  | .hbm, ⟨4, _⟩ => ⟨S1x257, .f32⟩
  | .hbm, ⟨5, _⟩ => ⟨S1048576x1, .f32⟩
  | .hbm, ⟨6, _⟩ => ⟨S1048576x257, .f32⟩
  | .hbm, ⟨7, _⟩ => ⟨S1048576x257, .f32⟩
  | .hbm, ⟨8, _⟩ => ⟨S1048576x257, .i1⟩
  | .hbm, ⟨9, _⟩ => ⟨S1048576x257, .i32⟩
  | .hbm, ⟨10, _⟩ => ⟨S_, .i32⟩
  | .hbm, ⟨11, _⟩ => ⟨S1048576, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S_, .i32⟩
  | .hbm, ⟨21, _⟩ => ⟨S1048576, .i32⟩
  | .hbm, ⟨22, _⟩ => ⟨S1048576, .i1⟩
  | .hbm, ⟨23, _⟩ => ⟨S_, .i32⟩
  | .hbm, ⟨24, _⟩ => ⟨S1048576, .i32⟩
  | .hbm, ⟨25, _⟩ => ⟨S1048576, .i32⟩
  | .hbm, ⟨26, _⟩ => ⟨S1048576, .i32⟩
  | .hbm, ⟨27, _⟩ => ⟨S1048576x1, .i32⟩
  | .hbm, ⟨28, _⟩ => ⟨S1, .i32⟩
  | .hbm, ⟨29, _⟩ => ⟨S_, .i32⟩
  | .hbm, ⟨30, _⟩ => ⟨S1048576x1, .i32⟩
  | .hbm, ⟨31, _⟩ => ⟨S1048576x1, .i1⟩
  | .hbm, ⟨32, _⟩ => ⟨S1x1, .i32⟩
  | .hbm, ⟨33, _⟩ => ⟨S1048576x1, .i32⟩
  | .hbm, ⟨34, _⟩ => ⟨S1048576x1, .i1⟩
  | .hbm, ⟨35, _⟩ => ⟨S1048576x1, .i1⟩
  | .hbm, ⟨36, _⟩ => ⟨S_, .i1⟩
  | .hbm, ⟨37, _⟩ => ⟨S1048576, .i1⟩
  | .hbm, ⟨38, _⟩ => ⟨S1048576, .f32⟩
  | .hbm, ⟨39, _⟩ => ⟨S_, .f32⟩
  | .hbm, ⟨40, _⟩ => ⟨S1048576, .f32⟩
  | .hbm, ⟨41, _⟩ => ⟨S1048576, .f32⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S_, .i32⟩
  | .hbm, ⟨46, _⟩ => ⟨S1048576, .i32⟩
  | .hbm, ⟨47, _⟩ => ⟨S1048576, .i1⟩
  | .hbm, ⟨48, _⟩ => ⟨S_, .i32⟩
  | .hbm, ⟨49, _⟩ => ⟨S1048576, .i32⟩
  | .hbm, ⟨50, _⟩ => ⟨S1048576, .i32⟩
  | .hbm, ⟨51, _⟩ => ⟨S1048576, .i32⟩
  | .hbm, ⟨52, _⟩ => ⟨S1048576x1, .i32⟩
  | .hbm, ⟨53, _⟩ => ⟨S1, .i32⟩
  | .hbm, ⟨54, _⟩ => ⟨S_, .i32⟩
  | .hbm, ⟨55, _⟩ => ⟨S1048576x1, .i32⟩
  | .hbm, ⟨56, _⟩ => ⟨S1048576x1, .i1⟩
  | .hbm, ⟨57, _⟩ => ⟨S1x1, .i32⟩
  | .hbm, ⟨58, _⟩ => ⟨S1048576x1, .i32⟩
  | .hbm, ⟨59, _⟩ => ⟨S1048576x1, .i1⟩
  | .hbm, ⟨60, _⟩ => ⟨S1048576x1, .i1⟩
  | .hbm, ⟨61, _⟩ => ⟨S_, .i1⟩
  | .hbm, ⟨62, _⟩ => ⟨S1048576, .i1⟩
  | .hbm, ⟨63, _⟩ => ⟨S1048576, .f32⟩
  | .hbm, ⟨64, _⟩ => ⟨S_, .f32⟩
  | .hbm, ⟨65, _⟩ => ⟨S1048576, .f32⟩
  | .hbm, ⟨66, _⟩ => ⟨S1048576, .f32⟩
  | .hbm, ⟨67, _⟩ => ⟨S1048576, .f32⟩
  | .hbm, ⟨68, _⟩ => ⟨S1048576, .f32⟩
  | .hbm, ⟨69, _⟩ => ⟨S_, .f32⟩
  | .hbm, ⟨70, _⟩ => ⟨S1048576, .f32⟩
  | .hbm, ⟨71, _⟩ => ⟨S1048576, .i1⟩
  | .hbm, ⟨72, _⟩ => ⟨S_, .f32⟩
  | .hbm, ⟨73, _⟩ => ⟨S1048576, .f32⟩
  | .hbm, ⟨74, _⟩ => ⟨S1048576, .f32⟩
  | .hbm, ⟨75, _⟩ => ⟨S_, .f32⟩
  | .hbm, ⟨76, _⟩ => ⟨S1048576, .f32⟩
  | .hbm, ⟨77, _⟩ => ⟨S1048576, .i1⟩
  | .hbm, ⟨78, _⟩ => ⟨S1048576, .f32⟩
  | .hbm, ⟨79, _⟩ => ⟨S1048576, .f32⟩
  | .hbm, ⟨80, _⟩ => ⟨S1048576, .f32⟩
  | .hbm, ⟨81, _⟩ => ⟨S1048576, .f32⟩
  | .hbm, ⟨82, _⟩ => ⟨S_, .f32⟩
  | .hbm, ⟨83, _⟩ => ⟨S1048576, .f32⟩
  | .hbm, ⟨84, _⟩ => ⟨S1048576, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst : Ref sig .tc := ⟨.hbm, 69, rfl⟩
abbrev main_v14 : Ref sig .tc := ⟨.hbm, 70, rfl⟩
abbrev main_v15 : Ref sig .tc := ⟨.hbm, 71, rfl⟩
abbrev main_cst_3 : Ref sig .tc := ⟨.hbm, 72, rfl⟩
abbrev main_v16 : Ref sig .tc := ⟨.hbm, 73, rfl⟩
abbrev main_v17 : Ref sig .tc := ⟨.hbm, 74, rfl⟩
abbrev main_cst_4 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_cst_5 : Ref sig .tc := ⟨.hbm, 82, rfl⟩
abbrev main_v24 : Ref sig .tc := ⟨.hbm, 83, rfl⟩
abbrev main_v25 : Ref sig .tc := ⟨.hbm, 84, rfl⟩

abbrev nD : Nat := 1
abbrev τ : Topo := Topo.v7x

variable {F : FTy → Type} [FloatOps F]
-- ==== Proof.Search.lean ====
/-
  What one lane of the kernel computes, for any float instance: nine probes of a table of 512 entries (a binary
  search whose position only moves up), the position clipped to [0, 255], and the value interpolated between the
  entry found and its neighbour. The search is stated on natural numbers; `hop_word` ties one probe's
  32-bit words to it, so that both the bounds of the gathers and the values they read follow from one invariant.
-/
module

public import Idealize.ShloMosaic.PureOps

@[expose] public section

namespace Cert.Search

open Idealize.ShloMosaic

variable {F : FTy → Type} [FloatOps F]

/-- One probe of width `k`: if the entry just below position `n + k` is smaller than `x`, move up to `n + k`. -/
def hop (T : ℕ → F .f32) (x : F .f32) (k n : ℕ) : ℕ :=
  if FloatOps.cmpf .olt (T (n + k - 1)) x = 1 then n + k else n

theorem hop_le (T : ℕ → F .f32) (x : F .f32) (k : ℕ) {n b : ℕ} (h : n ≤ b) : hop T x k n ≤ b + k := by
  unfold hop; split <;> omega

/-- The position the nine probes of widths 256, 128, …, 1 reach from 0. -/
def place (T : ℕ → F .f32) (x : F .f32) : ℕ :=
  hop T x 1 (hop T x 2 (hop T x 4 (hop T x 8 (hop T x 16 (hop T x 32 (hop T x 64 (hop T x 128 (hop T x 256 0))))))))

theorem place_le (T : ℕ → F .f32) (x : F .f32) : place T x ≤ 511 := by
  have h0 : 0 ≤ 0 := le_rfl
  exact hop_le T x 1 (hop_le T x 2 (hop_le T x 4 (hop_le T x 8 (hop_le T x 16 (hop_le T x 32 (hop_le T x 64
    (hop_le T x 128 (hop_le T x 256 h0))))))))

/-- The table's cell a lane falls in. -/
def cell (T : ℕ → F .f32) (x : F .f32) : ℕ := min (place T x) 255

/-- The value interpolated in cell `n`, between the entries `a` (its left end) and `b` (its right end). -/
def interp (n : ℕ) (a b x : F .f32) : F .f32 :=
  FloatOps.mulf
    (FloatOps.addf (FloatOps.sitofp .f32 (BitVec.ofNat 32 n))
      (Scalar.select (FloatOps.cmpf .ogt (FloatOps.subf b a) (FloatOps.ofBits .f32 0x00000000#32))
        (FloatOps.divf (FloatOps.subf x a)
          (Scalar.select (FloatOps.cmpf .ogt (FloatOps.subf b a) (FloatOps.ofBits .f32 0x00000000#32))
            (FloatOps.subf b a) (FloatOps.ofBits .f32 0x3F800000#32)))
        (FloatOps.subf x a)))
    (FloatOps.ofBits .f32 0x3B800000#32)

/-- What a lane holding `x` stores. -/
def lane (T : ℕ → F .f32) (x : F .f32) : F .f32 :=
  interp (cell T x) (T (cell T x)) (T (cell T x + 1)) x

/-! ## The words of the search -/

/-- The word the kernel holds for position `n`: the index `n - 1`. -/
def pos (n : ℕ) : BitVec 32 := BitVec.ofNat 32 n - 1#32

theorem pos_zero : pos 0 = 4294967295#32 := by decide

theorem pos_add (n k : ℕ) : pos n + BitVec.ofNat 32 k = pos (n + k) := by
  unfold pos
  rw [BitVec.ofNat_add, BitVec.sub_eq_add_neg, BitVec.sub_eq_add_neg, BitVec.add_assoc, BitVec.add_assoc,
    BitVec.add_comm (BitVec.ofNat 32 k)]

theorem pos_toNat {n : ℕ} (h0 : 0 < n) (h : n ≤ 512) : (pos n).toNat = n - 1 := by
  unfold pos
  have : (BitVec.ofNat 32 n).toNat = n := by rw [BitVec.toNat_ofNat]; omega
  rw [BitVec.toNat_sub, this]
  simp
  omega

/-- One probe on words: the candidate's entry compared, the candidate or the old index kept. -/
theorem hop_word {T : ℕ → F .f32} {x v : F .f32} {i c : BitVec 32} (k n : ℕ) (hi : i = pos n) (hc : c = pos (n + k))
    (hv : v = T (n + k - 1)) : Scalar.select (FloatOps.cmpf .olt v x) c i = pos (hop T x k n) := by
  subst hi hc hv
  unfold Scalar.select hop
  split <;> rfl

/-- The clip: index plus one, at least 0, at most 255. -/
theorem clip_word {n : ℕ} (h : n ≤ 511) :
    IntOp.minsi (255#32) (IntOp.maxsi (0#32) (pos n + 1#32)) = BitVec.ofNat 32 (min n 255) := by
  have e : pos n + 1#32 = BitVec.ofNat 32 n := by unfold pos; exact BitVec.sub_add_cancel _ _
  rw [e]
  have : ∀ n : Fin 512, IntOp.minsi (255#32) (IntOp.maxsi (0#32) (BitVec.ofNat 32 n.val)) = BitVec.ofNat 32 (min n.val 255) := by
    decide +kernel
  exact this ⟨n, by omega⟩

end Cert.Search

end
-- ==== Proof.KernelIdealTrip.lean ====
/-
  One trip of the kernel's loop, at any float instance: sixteen lanes of the staged inputs are loaded, searched for in
  the staged table by nine probes, interpolated, and stored. The trip leaves the table and the inputs as they were and
  writes `Search.lane` of each of the sixteen inputs.
-/
module

public import proofs.«01_k».proof.Defs
public import proofs.«01_k».proof.Proof.Search
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Search

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The table as a function of the entry's number -/

/-- The one-axis index at coordinate `j` of an array of 512 entries. -/
def ix (j : ℕ) : S512.Idx := fun a => ⟨j % 512, by rw [Fin.eq_zero a]; exact Nat.mod_lt _ (by decide)⟩

/-- The staged table's entry number `j`. -/
def tabN (f : S512.Idx → F .f32) (j : ℕ) : F .f32 := f (ix j)

/-- A gather of the table reads, at each lane, the entry the lane's word numbers. -/
theorem loadIdx_tab (f : Vec F S512 .f32) (v : IVec S16 32) (h : ∀ a x, ((![v] : Fin 1 → IVec S16 32) a x).toNat < S512.size a)
    (x : S16.Idx) : loadIdx (F := F) (e := .f32) f ![v] h x = tabN f (v x).toNat := by
  unfold loadIdx tabN
  congr 1
  funext a
  apply Fin.ext
  obtain rfl : a = 0 := Fin.eq_zero a
  exact (Nat.mod_eq_of_lt (h 0 x)).symm

/-- A probe's index is in the table when the lanes' positions are. -/
theorem chk_of_pos {v : IVec S16 32} {n : S16.Idx → ℕ} (h : ∀ x, v x = pos (n x)) (h0 : ∀ x, 0 < n x) (hn : ∀ x, n x ≤ 512) :
    ∀ a x, ((![v] : Fin 1 → IVec S16 32) a x).toNat < S512.size a := by
  intro a x
  obtain rfl : a = 0 := Fin.eq_zero a
  show (v x).toNat < 512
  have h1 := h0 x
  have h2 := hn x
  rw [h x, pos_toNat h1 h2]
  omega

/-- The same for lanes that number their entries themselves. -/
theorem chk_of_nat {v : IVec S16 32} {n : S16.Idx → ℕ} (h : ∀ x, v x = BitVec.ofNat 32 (n x)) (hn : ∀ x, n x < 512) :
    ∀ a x, ((![v] : Fin 1 → IVec S16 32) a x).toNat < S512.size a := by
  intro a x
  obtain rfl : a = 0 := Fin.eq_zero a
  show (v x).toNat < 512
  have h2 := hn x
  rw [h x, BitVec.toNat_ofNat]
  omega

variable [FloatOps F]

/-- One probe of sixteen lanes, from words at positions `n x` to words at the positions after the probe. -/
theorem probe {f : Vec F S512 .f32} {i c : IVec S16 32} {n : S16.Idx → ℕ} {X : S16.Idx → F .f32} (k : ℕ)
    (hi : ∀ x, i x = pos (n x)) (hc : ∀ x, c x = pos (n x + k)) (hk : 0 < k) (hb : ∀ x, n x + k ≤ 512)
    (h : ∀ a x, ((![c] : Fin 1 → IVec S16 32) a x).toNat < S512.size a) (x : S16.Idx) :
    Scalar.select (FloatOps.cmpf .olt (loadIdx (F := F) (e := .f32) f ![c] h x) (X x)) (c x) (i x) = pos (hop (tabN f) (X x) k (n x)) := by
  refine hop_word k (n x) (hi x) (hc x) ?_
  have h1 := hb x
  rw [loadIdx_tab, hc x, pos_toNat (by omega) h1]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none
abbrev UH : Type := URounds (GSem nD τ sig) ℕ
abbrev UU : Type := UH × Counters

local notation "𝕄" => MT nD τ sig (HIx 1) (Elt F) ℕ UU ℕ

/-- The scratch that holds the table. -/
abbrev tW : Memref sig .scVector .vmem S512 .f32 := Memref.whole cc0_scratch0
/-- The scratch that holds the inputs. -/
abbrev uW : Memref sig .scVector .vmem S32768 .f32 := Memref.whole cc0_scratch1
/-- The scratch that holds the results. -/
abbrev rW : Memref sig .scVector .vmem S32768 .f32 := Memref.whole cc0_scratch2
/-- The array of inputs, as a vector subcore names it. -/
abbrev uA : Memref sig .scVector .hbm S1048576 .f32 := Memref.whole main_arg0_scv
/-- The padded table, as a vector subcore names it. -/
abbrev tA : Memref sig .scVector .hbm S512 .f32 := Memref.whole main_v1_scv
/-- The array of results, as a vector subcore names it. -/
abbrev oA : Memref sig .scVector .hbm S1048576 .f32 := Memref.whole main_v2_scv

/-- The vector subcore grid point `L` runs on. -/
abbrev tile (d : Dev nD) (L : grid0.Coords) : Thread nD τ := V d ((L 0).castLE hcore0) ((L 1).castLE hsub0)

variable (d : Dev nD) (L : grid0.Coords)

/-- The sixteen lanes trip `k` loads and stores. -/
abbrev lanesR (k : Fin k0_t1_loop.trips) : Rect S32768 := Rect.unit (s := S32768) (k0_off3 k) S16.size (k0_off3_inb k)

/-- The sixteen lanes trip `k` works on, out of the staged inputs. -/
def lanesOf (f6 : S32768.Idx → F .f32) (k : Fin k0_t1_loop.trips) : S16.Idx → F .f32 :=
  (uW).view.readAt (Elt F) (Rect.unit (s := S32768) (k0_off2 k) S16.size (k0_off2_inb k)).toLoadRect f6

/-- What trip `k` leaves in the results' scratch, from `f7` before: on its sixteen words the lanes' values, on the words
    before them what was there. -/
def Wrote (k : Fin k0_t1_loop.trips) (f5 : S512.Idx → F .f32) (f6 f7 f7' : S32768.Idx → F .f32) : Prop :=
  (∀ j : S32768.Idx, 16 * k.val ≤ (j 0).val → (j 0).val < 16 * k.val + 16 → f7' j = lane (tabN f5) (f6 j))
    ∧ ∀ j : S32768.Idx, (j 0).val < 16 * k.val → f7' j = f7 j

/-- A store of the lanes' values at the trip's sixteen words does what `Wrote` says. -/
theorem wrote_of_store (k : Fin k0_t1_loop.trips) (f5 : S512.Idx → F .f32) (f6 f7 : S32768.Idx → F .f32) (w : S16.Idx → F .f32)
    (hw : ∀ x : S16.Idx, w x = lane (tabN f5) (lanesOf f6 k x)) :
    Wrote k f5 f6 f7 (((rW).access (lanesR k)).write (Elt F) f7 w Finset.univ) := by
  have hemb : ∀ x : S16.Idx, ((lanesR k).emb x 0).val = 16 * k.val + (x 0).val := by
    intro x
    show k0_off3 k 0 + 1 * (x 0).val = _
    rw [k0_off3_eq]; simp
  have hix : ∀ x : S16.Idx, (Rect.unit (s := S32768) (k0_off2 k) S16.size (k0_off2_inb k)).toLoadRect.idx x = (lanesR k).emb x := by
    intro x
    funext a; apply Fin.ext
    obtain rfl : a = 0 := Fin.eq_zero a
    rw [hemb x, LoadRect.idx_apply]
    show k0_off2 k 0 + 1 * (x 0).val = _
    rw [k0_off2_eq]; simp
  constructor
  · intro j h1 h2
    let x : S16.Idx := fun a => ⟨(j 0).val - 16 * k.val, by obtain rfl : a = 0 := Fin.eq_zero a; show _ < 16; omega⟩
    have hx : (lanesR k).emb x = j := by
      funext a; apply Fin.ext
      obtain rfl : a = 0 := Fin.eq_zero a
      rw [hemb x]
      show 16 * k.val + ((j 0).val - 16 * k.val) = _
      omega
    have h := View.read_writes_cons_hit (Val := Elt F) (rW).view f7 (lanesR k) w [] x j hx
    have h' : ((rW).access (lanesR k)).write (Elt F) f7 w Finset.univ j = w x := h
    unfold lanesOf at hw
    rw [h', hw x, View.readAt_apply, hix x, hx]
    rfl
  · intro j h1
    exact View.read_writes_cons_miss_of_axis (Val := Elt F) (rW).view f7 ⟨lanesR k, w⟩ [] j 0 (16 * k.val) 16
      (by show k0_off3 k 0 = _; rw [k0_off3_eq]; rfl) rfl rfl (.inl h1)

omit [FloatOps F] in
theorem read_tab (f5 : Buf (Elt F) ((tW).view.loc (tile d L))) : ((tW).access (.whole S512)).read (Elt F) f5 = f5 := by
  funext x
  show f5 _ = f5 x
  congr 1
  funext a; apply Fin.ext
  show 0 + 1 * (x a).val = _
  omega

theorem pay6_eq (v6 : Vec F S16 .f32) : k0_pay6 (F := F) v6 = v6 := by
  funext x
  show v6 (Shape.reshapeEquiv _ x) = v6 x
  rw [Shape.reshapeEquiv_self]

/-- The first seven probes: the words they leave are the positions after them, and the next candidates two further on. -/
def Probed (f5 : S512.Idx → F .f32) (f6 : S32768.Idx → F .f32) (k : Fin k0_t1_loop.trips)
    (r : Σ' (_ : BitVec 32) (_ : FVec F S16 .f32) (_ : IVec S16 32), IVec S16 32) : Prop :=
  r.2.1 = lanesOf f6 k ∧ ∃ n : S16.Idx → ℕ, (∀ x, n x = hop (tabN f5) (lanesOf f6 k x) 4 (hop (tabN f5) (lanesOf f6 k x) 8 (hop (tabN f5) (lanesOf f6 k x) 16 (hop (tabN f5) (lanesOf f6 k x) 32 (hop (tabN f5) (lanesOf f6 k x) 64 (hop (tabN f5) (lanesOf f6 k x) 128 (hop (tabN f5) (lanesOf f6 k x) 256 0)))))))
    ∧ (∀ x, n x ≤ 508) ∧ (∀ x, r.2.2.1 x = pos (n x)) ∧ ∀ x, r.2.2.2 x = pos (n x + 2)

set_option maxHeartbeats 2000000 in
/-- The first seven probes of a trip: the table and the inputs stay as they were, and the words handed on are as `Probed` says. -/
theorem part_run (k : Fin k0_t1_loop.trips) (f5 : Buf (Elt F) ((tW).view.loc (tile d L))) (f6 : Buf (Elt F) ((uW).view.loc (tile d L))) :
    iprop(((tW).view.loc (tile d L) ↦{fullShare} f5) ∗ ((uW).view.loc (tile d L) ↦{fullShare} f6))
      ⊢ (wp frame (wpE (defs₀ (F := F)) 𝒱₀ (tile d L) none) Set.univ
          (k0_part1 L uA (Memref.isWhole_whole _) tA (Memref.isWhole_whole _) oA (Memref.isWhole_whole _) tW (Memref.isWhole_whole _)
            uW (Memref.isWhole_whole _) rW (Memref.isWhole_whole _) cc0_scoped0 cc0_scoped1 cc0_scoped2 0#32 1#32 k)
          fun r => iprop(((tW).view.loc (tile d L) ↦{fullShare} f5) ∗ ((uW).view.loc (tile d L) ↦{fullShare} f6) ∗ ⌜Probed f5 f6 k r⌝) : sProp 𝕄) := by
  simp only [k0_part1_eq_skeleton]
  unfold k0_part1_skel
  simp only [Prog.lift, Prog.bind_op, Prog.bind_ret, Prog.pure_eq_ret]
  iintro ⟨H5, H6⟩
  iapply (wp_load 𝒱₀ (tile d L) none Set.univ (m := uW) (S := Finset.univ) (Finset.subset_univ _)) $$ H6; iintro H6
  have hr : ((tW).access (.whole S512)).read (Elt F) f5 = f5 := read_tab d L f5
  generalize h6 : (uW).view.readAt (Elt F) (Rect.unit (s := S32768) (k0_off2 k) S16.size (k0_off2_inb k)).toLoadRect f6 = v6
  have p0 : ∀ x, k0_pay7 x = pos 0 := fun x => pos_zero.symm
  have q1 : ∀ x, k0_pay8 x = pos (0 + 256) := fun x => (congrArg (· + 256#32) (p0 x)).trans (pos_add 0 256)
  generalize g1 : k0_pay8 = c1 at q1 ⊢
  -- the probe of width 256
  have k1 := chk_of_pos q1 (fun x => by omega) (fun x => by omega)
  rw [wp_assume_of _ _ _ _ (show k0_chk1 c1 from k1)]
  iapply (SparseCore.wp_vectorLoadIdx 𝒱₀ (tile d L) none Set.univ (base := tW) (S := Finset.univ) (q := fullShare) (Finset.subset_univ _)) $$ H5; iintro H5
  have p1 : ∀ x, Scalar.select (FloatOps.cmpf .olt (loadIdx (F := F) (e := .f32) (((tW).access (.whole S512)).read (Elt F) f5) ![c1] k1 x) (v6 x)) (c1 x) (k0_pay7 x) = pos (hop (tabN f5) (v6 x) 256 (0)) := fun x => by
    rw [hr]; exact probe (f := f5) (n := fun _ => 0) (X := v6) 256 p0 q1 (by decide) (fun x => by omega) k1 x
  generalize loadIdx (F := F) (e := .f32) (((tW).access (.whole S512)).read (Elt F) f5) ![c1] k1 = v11 at p1 ⊢
  obtain ⟨n1, m1⟩ : ∃ n : S16.Idx → ℕ, n = fun x => hop (tabN f5) (v6 x) 256 (0) := ⟨_, rfl⟩
  have b1 : ∀ x, n1 x ≤ 256 := fun x => by rw [m1]; exact hop_le _ _ 256 (le_rfl)
  replace p1 : ∀ x, k0_pay9 v6 c1 v11 x = pos (n1 x) := fun x => by
    rw [m1, ← p1 x]; simp only [k0_pay9, pay6_eq]; rfl
  have q2 : ∀ x, k0_pay10 v6 c1 v11 x = pos (n1 x + 128) := fun x => by
    rw [← pos_add, ← p1 x]; rfl
  generalize g2 : k0_pay10 v6 c1 v11 = c2 at q2 ⊢
  -- the probe of width 128
  have k2 := chk_of_pos q2 (fun x => by omega) (fun x => by have := b1 x; omega)
  rw [wp_assume_of _ _ _ _ (show k0_chk2 c2 from k2)]
  iapply (SparseCore.wp_vectorLoadIdx 𝒱₀ (tile d L) none Set.univ (base := tW) (S := Finset.univ) (q := fullShare) (Finset.subset_univ _)) $$ H5; iintro H5
  have p2 : ∀ x, Scalar.select (FloatOps.cmpf .olt (loadIdx (F := F) (e := .f32) (((tW).access (.whole S512)).read (Elt F) f5) ![c2] k2 x) (v6 x)) (c2 x) (k0_pay9 v6 c1 v11 x) = pos (hop (tabN f5) (v6 x) 128 (n1 x)) := fun x => by
    rw [hr]; exact probe (f := f5) (n := n1) (X := v6) 128 p1 q2 (by decide) (fun x => by have := b1 x; omega) k2 x
  generalize loadIdx (F := F) (e := .f32) (((tW).access (.whole S512)).read (Elt F) f5) ![c2] k2 = v16 at p2 ⊢
  obtain ⟨n2, m2⟩ : ∃ n : S16.Idx → ℕ, n = fun x => hop (tabN f5) (v6 x) 128 (n1 x) := ⟨_, rfl⟩
  have b2 : ∀ x, n2 x ≤ 384 := fun x => by rw [m2]; exact hop_le _ _ 128 (b1 x)
  replace p2 : ∀ x, k0_pay11 v6 c1 v11 c2 v16 x = pos (n2 x) := fun x => by
    rw [m2, ← p2 x]; simp only [k0_pay11, pay6_eq]; rfl
  have q3 : ∀ x, k0_pay12 v6 c1 v11 c2 v16 x = pos (n2 x + 64) := fun x => by
    rw [← pos_add, ← p2 x]; rfl
  generalize g3 : k0_pay12 v6 c1 v11 c2 v16 = c3 at q3 ⊢
  -- the probe of width 64
  have k3 := chk_of_pos q3 (fun x => by omega) (fun x => by have := b2 x; omega)
  rw [wp_assume_of _ _ _ _ (show k0_chk3 c3 from k3)]
  iapply (SparseCore.wp_vectorLoadIdx 𝒱₀ (tile d L) none Set.univ (base := tW) (S := Finset.univ) (q := fullShare) (Finset.subset_univ _)) $$ H5; iintro H5
  have p3 : ∀ x, Scalar.select (FloatOps.cmpf .olt (loadIdx (F := F) (e := .f32) (((tW).access (.whole S512)).read (Elt F) f5) ![c3] k3 x) (v6 x)) (c3 x) (k0_pay11 v6 c1 v11 c2 v16 x) = pos (hop (tabN f5) (v6 x) 64 (n2 x)) := fun x => by
    rw [hr]; exact probe (f := f5) (n := n2) (X := v6) 64 p2 q3 (by decide) (fun x => by have := b2 x; omega) k3 x
  generalize loadIdx (F := F) (e := .f32) (((tW).access (.whole S512)).read (Elt F) f5) ![c3] k3 = v21 at p3 ⊢
  obtain ⟨n3, m3⟩ : ∃ n : S16.Idx → ℕ, n = fun x => hop (tabN f5) (v6 x) 64 (n2 x) := ⟨_, rfl⟩
  have b3 : ∀ x, n3 x ≤ 448 := fun x => by rw [m3]; exact hop_le _ _ 64 (b2 x)
  replace p3 : ∀ x, k0_pay13 v6 c1 v11 c2 v16 c3 v21 x = pos (n3 x) := fun x => by
    rw [m3, ← p3 x]; simp only [k0_pay13, pay6_eq]; rfl
  have q4 : ∀ x, k0_pay14 v6 c1 v11 c2 v16 c3 v21 x = pos (n3 x + 32) := fun x => by
    rw [← pos_add, ← p3 x]; rfl
  generalize g4 : k0_pay14 v6 c1 v11 c2 v16 c3 v21 = c4 at q4 ⊢
  -- the probe of width 32
  have k4 := chk_of_pos q4 (fun x => by omega) (fun x => by have := b3 x; omega)
  rw [wp_assume_of _ _ _ _ (show k0_chk4 c4 from k4)]
  iapply (SparseCore.wp_vectorLoadIdx 𝒱₀ (tile d L) none Set.univ (base := tW) (S := Finset.univ) (q := fullShare) (Finset.subset_univ _)) $$ H5; iintro H5
  have p4 : ∀ x, Scalar.select (FloatOps.cmpf .olt (loadIdx (F := F) (e := .f32) (((tW).access (.whole S512)).read (Elt F) f5) ![c4] k4 x) (v6 x)) (c4 x) (k0_pay13 v6 c1 v11 c2 v16 c3 v21 x) = pos (hop (tabN f5) (v6 x) 32 (n3 x)) := fun x => by
    rw [hr]; exact probe (f := f5) (n := n3) (X := v6) 32 p3 q4 (by decide) (fun x => by have := b3 x; omega) k4 x
  generalize loadIdx (F := F) (e := .f32) (((tW).access (.whole S512)).read (Elt F) f5) ![c4] k4 = v26 at p4 ⊢
  obtain ⟨n4, m4⟩ : ∃ n : S16.Idx → ℕ, n = fun x => hop (tabN f5) (v6 x) 32 (n3 x) := ⟨_, rfl⟩
  have b4 : ∀ x, n4 x ≤ 480 := fun x => by rw [m4]; exact hop_le _ _ 32 (b3 x)
  replace p4 : ∀ x, k0_pay15 v6 c1 v11 c2 v16 c3 v21 c4 v26 x = pos (n4 x) := fun x => by
    rw [m4, ← p4 x]; simp only [k0_pay15, pay6_eq]; rfl
  have q5 : ∀ x, k0_pay16 v6 c1 v11 c2 v16 c3 v21 c4 v26 x = pos (n4 x + 16) := fun x => by
    rw [← pos_add, ← p4 x]; rfl
  generalize g5 : k0_pay16 v6 c1 v11 c2 v16 c3 v21 c4 v26 = c5 at q5 ⊢
  -- the probe of width 16
  have k5 := chk_of_pos q5 (fun x => by omega) (fun x => by have := b4 x; omega)
  rw [wp_assume_of _ _ _ _ (show k0_chk5 c5 from k5)]
  iapply (SparseCore.wp_vectorLoadIdx 𝒱₀ (tile d L) none Set.univ (base := tW) (S := Finset.univ) (q := fullShare) (Finset.subset_univ _)) $$ H5; iintro H5
  have p5 : ∀ x, Scalar.select (FloatOps.cmpf .olt (loadIdx (F := F) (e := .f32) (((tW).access (.whole S512)).read (Elt F) f5) ![c5] k5 x) (v6 x)) (c5 x) (k0_pay15 v6 c1 v11 c2 v16 c3 v21 c4 v26 x) = pos (hop (tabN f5) (v6 x) 16 (n4 x)) := fun x => by
    rw [hr]; exact probe (f := f5) (n := n4) (X := v6) 16 p4 q5 (by decide) (fun x => by have := b4 x; omega) k5 x
  generalize loadIdx (F := F) (e := .f32) (((tW).access (.whole S512)).read (Elt F) f5) ![c5] k5 = v31 at p5 ⊢
  obtain ⟨n5, m5⟩ : ∃ n : S16.Idx → ℕ, n = fun x => hop (tabN f5) (v6 x) 16 (n4 x) := ⟨_, rfl⟩
  have b5 : ∀ x, n5 x ≤ 496 := fun x => by rw [m5]; exact hop_le _ _ 16 (b4 x)
  replace p5 : ∀ x, k0_pay17 v6 c1 v11 c2 v16 c3 v21 c4 v26 c5 v31 x = pos (n5 x) := fun x => by
    rw [m5, ← p5 x]; simp only [k0_pay17, pay6_eq]; rfl
  have q6 : ∀ x, k0_pay18 v6 c1 v11 c2 v16 c3 v21 c4 v26 c5 v31 x = pos (n5 x + 8) := fun x => by
    rw [← pos_add, ← p5 x]; rfl
  generalize g6 : k0_pay18 v6 c1 v11 c2 v16 c3 v21 c4 v26 c5 v31 = c6 at q6 ⊢
  -- the probe of width 8
  have k6 := chk_of_pos q6 (fun x => by omega) (fun x => by have := b5 x; omega)
  rw [wp_assume_of _ _ _ _ (show k0_chk6 c6 from k6)]
  iapply (SparseCore.wp_vectorLoadIdx 𝒱₀ (tile d L) none Set.univ (base := tW) (S := Finset.univ) (q := fullShare) (Finset.subset_univ _)) $$ H5; iintro H5
  have p6 : ∀ x, Scalar.select (FloatOps.cmpf .olt (loadIdx (F := F) (e := .f32) (((tW).access (.whole S512)).read (Elt F) f5) ![c6] k6 x) (v6 x)) (c6 x) (k0_pay17 v6 c1 v11 c2 v16 c3 v21 c4 v26 c5 v31 x) = pos (hop (tabN f5) (v6 x) 8 (n5 x)) := fun x => by
    rw [hr]; exact probe (f := f5) (n := n5) (X := v6) 8 p5 q6 (by decide) (fun x => by have := b5 x; omega) k6 x
  generalize loadIdx (F := F) (e := .f32) (((tW).access (.whole S512)).read (Elt F) f5) ![c6] k6 = v36 at p6 ⊢
  obtain ⟨n6, m6⟩ : ∃ n : S16.Idx → ℕ, n = fun x => hop (tabN f5) (v6 x) 8 (n5 x) := ⟨_, rfl⟩
  have b6 : ∀ x, n6 x ≤ 504 := fun x => by rw [m6]; exact hop_le _ _ 8 (b5 x)
  replace p6 : ∀ x, k0_pay19 v6 c1 v11 c2 v16 c3 v21 c4 v26 c5 v31 c6 v36 x = pos (n6 x) := fun x => by
    rw [m6, ← p6 x]; simp only [k0_pay19, pay6_eq]; rfl
  have q7 : ∀ x, k0_pay20 v6 c1 v11 c2 v16 c3 v21 c4 v26 c5 v31 c6 v36 x = pos (n6 x + 4) := fun x => by
    rw [← pos_add, ← p6 x]; rfl
  generalize g7 : k0_pay20 v6 c1 v11 c2 v16 c3 v21 c4 v26 c5 v31 c6 v36 = c7 at q7 ⊢
  -- the probe of width 4
  have k7 := chk_of_pos q7 (fun x => by omega) (fun x => by have := b6 x; omega)
  rw [wp_assume_of _ _ _ _ (show k0_chk7 c7 from k7)]
  iapply (SparseCore.wp_vectorLoadIdx 𝒱₀ (tile d L) none Set.univ (base := tW) (S := Finset.univ) (q := fullShare) (Finset.subset_univ _)) $$ H5; iintro H5
  have p7 : ∀ x, Scalar.select (FloatOps.cmpf .olt (loadIdx (F := F) (e := .f32) (((tW).access (.whole S512)).read (Elt F) f5) ![c7] k7 x) (v6 x)) (c7 x) (k0_pay19 v6 c1 v11 c2 v16 c3 v21 c4 v26 c5 v31 c6 v36 x) = pos (hop (tabN f5) (v6 x) 4 (n6 x)) := fun x => by
    rw [hr]; exact probe (f := f5) (n := n6) (X := v6) 4 p6 q7 (by decide) (fun x => by have := b6 x; omega) k7 x
  generalize loadIdx (F := F) (e := .f32) (((tW).access (.whole S512)).read (Elt F) f5) ![c7] k7 = v41 at p7 ⊢
  obtain ⟨n7, m7⟩ : ∃ n : S16.Idx → ℕ, n = fun x => hop (tabN f5) (v6 x) 4 (n6 x) := ⟨_, rfl⟩
  have b7 : ∀ x, n7 x ≤ 508 := fun x => by rw [m7]; exact hop_le _ _ 4 (b6 x)
  replace p7 : ∀ x, k0_pay21 v6 c1 v11 c2 v16 c3 v21 c4 v26 c5 v31 c6 v36 c7 v41 x = pos (n7 x) := fun x => by
    rw [m7, ← p7 x]; simp only [k0_pay21, pay6_eq]; rfl
  have q8 : ∀ x, k0_pay22 v6 c1 v11 c2 v16 c3 v21 c4 v26 c5 v31 c6 v36 c7 v41 x = pos (n7 x + 2) := fun x => by
    rw [← pos_add, ← p7 x]; rfl
  rw [wp_ret]; imodintro
  isplitl [H5]; · iexact H5
  isplitl [H6]; · iexact H6
  ipureintro
  refine ⟨(pay6_eq v6).trans h6.symm, n7, fun x => ?_, b7, p7, q8⟩
  subst m7 m6 m5 m4 m3 m2 m1 h6
  rfl

set_option maxHeartbeats 2000000 in
/-- One trip: the table and the inputs stay as they were, and the results change as `Wrote` says. -/
theorem trip_run (k : Fin k0_t1_loop.trips) (f5 : Buf (Elt F) ((tW).view.loc (tile d L))) (f6 : Buf (Elt F) ((uW).view.loc (tile d L)))
    (f7 : Buf (Elt F) ((rW).view.loc (tile d L))) :
    iprop(((tW).view.loc (tile d L) ↦{fullShare} f5) ∗ ((uW).view.loc (tile d L) ↦{fullShare} f6) ∗ ((rW).view.loc (tile d L) ↦{fullShare} f7))
      ⊢ (wp frame (wpE (defs₀ (F := F)) 𝒱₀ (tile d L) none) Set.univ
          (k0_t1_body L uA (Memref.isWhole_whole _) tA (Memref.isWhole_whole _) oA (Memref.isWhole_whole _) tW (Memref.isWhole_whole _)
            uW (Memref.isWhole_whole _) rW (Memref.isWhole_whole _) cc0_scoped0 cc0_scoped1 cc0_scoped2 k ())
          fun _ => iprop(((tW).view.loc (tile d L) ↦{fullShare} f5) ∗ ((uW).view.loc (tile d L) ↦{fullShare} f6)
            ∗ ∃ f7', ⌜Wrote k f5 f6 f7 f7'⌝ ∗ ((rW).view.loc (tile d L) ↦{fullShare} f7')) : sProp 𝕄) := by
  unfold k0_t1_body
  iintro ⟨H5, H6, H7⟩
  rw [wp_bind]
  ihave Hp := (part_run d L k f5 f6) $$ [H5 H6]
  · isplitl [H5] <;> iassumption
  iapply (wp_wand frame _ _) $$ [Hp]
  · iexact Hp
  iintro %r ⟨H5, H6, %hP⟩
  obtain ⟨a8, v6, i7, c8⟩ := r
  obtain ⟨e6, n7, m7, b7, p7, q8⟩ := hP
  replace e6 : v6 = lanesOf f6 k := e6
  replace p7 : ∀ x, i7 x = pos (n7 x) := p7
  replace q8 : ∀ x, c8 x = pos (n7 x + 2) := q8
  simp only [Prog.lift, Prog.bind_op, Prog.bind_ret, Prog.pure_eq_ret]
  have hr : (((tW).access (.whole S512)).read (Elt F) f5) = f5 := read_tab d L f5
  -- the probe of width 2
  have k8 := chk_of_pos q8 (fun x => by omega) (fun x => by have := b7 x; omega)
  rw [wp_assume_of _ _ _ _ (show k0_chk8 c8 from k8)]
  iapply (SparseCore.wp_vectorLoadIdx 𝒱₀ (tile d L) none Set.univ (base := tW) (S := Finset.univ) (q := fullShare) (Finset.subset_univ _)) $$ H5; iintro H5
  have p8 : ∀ x, k0_pay1 v6 i7 c8 (loadIdx (F := F) (e := .f32) (((tW).access (.whole S512)).read (Elt F) f5) ![c8] k8) x = pos (hop (tabN f5) (v6 x) 2 (n7 x)) := fun x => by
    rw [hr]; exact probe (f := f5) (n := n7) (X := v6) 2 p7 q8 (by decide) (fun x => by have := b7 x; omega) k8 x
  generalize loadIdx (F := F) (e := .f32) (((tW).access (.whole S512)).read (Elt F) f5) ![c8] k8 = v46 at p8 ⊢
  obtain ⟨n8, m8⟩ : ∃ n : S16.Idx → ℕ, n = fun x => hop (tabN f5) (v6 x) 2 (n7 x) := ⟨_, rfl⟩
  have b8 : ∀ x, n8 x ≤ 510 := fun x => by rw [m8]; exact hop_le _ _ 2 (b7 x)
  replace p8 : ∀ x, k0_pay1 v6 i7 c8 v46 x = pos (n8 x) := fun x => by rw [m8]; exact p8 x
  have q9 : ∀ x, k0_pay2 v6 i7 c8 v46 x = pos (n8 x + 1) := fun x => by
    rw [← pos_add, ← p8 x]; rfl
  generalize k0_pay2 v6 i7 c8 v46 = c9 at q9 ⊢
  -- the probe of width 1
  have k9 := chk_of_pos q9 (fun x => by omega) (fun x => by have := b8 x; omega)
  rw [wp_assume_of _ _ _ _ (show k0_chk9 c9 from k9)]
  iapply (SparseCore.wp_vectorLoadIdx 𝒱₀ (tile d L) none Set.univ (base := tW) (S := Finset.univ) (q := fullShare) (Finset.subset_univ _)) $$ H5; iintro H5
  have p9 : ∀ x, Scalar.select (FloatOps.cmpf .olt (loadIdx (F := F) (e := .f32) (((tW).access (.whole S512)).read (Elt F) f5) ![c9] k9 x) (v6 x)) (c9 x) (k0_pay1 v6 i7 c8 v46 x)
      = pos (hop (tabN f5) (v6 x) 1 (n8 x)) := fun x => by
    rw [hr]; exact probe (f := f5) (n := n8) (X := v6) 1 p8 q9 (by decide) (fun x => by have := b8 x; omega) k9 x
  generalize loadIdx (F := F) (e := .f32) (((tW).access (.whole S512)).read (Elt F) f5) ![c9] k9 = v51 at p9 ⊢
  have hcell : ∀ x, k0_pay3 v6 i7 c8 v46 c9 v51 x = BitVec.ofNat 32 (cell (tabN f5) (v6 x)) := fun x => by
    have hb : hop (tabN f5) (v6 x) 1 (n8 x) ≤ 511 := hop_le _ _ 1 (b8 x)
    have hc := clip_word hb
    rw [← p9 x] at hc
    refine Eq.trans hc ?_
    rw [m8]
    show BitVec.ofNat 32 (min (hop (tabN f5) (v6 x) 1 (hop (tabN f5) (v6 x) 2 (n7 x))) 255) = _
    rw [m7 x, ← e6]
    rfl
  generalize k0_pay3 v6 i7 c8 v46 c9 v51 = c10 at hcell ⊢
  -- the cell's left end
  have hl : ∀ x, cell (tabN f5) (v6 x) ≤ 255 := fun x => Nat.min_le_right _ _
  have k10 := chk_of_nat hcell (fun x => by have := hl x; omega)
  rw [wp_assume_of _ _ _ _ (show k0_chk10 c10 from k10)]
  iapply (SparseCore.wp_vectorLoadIdx 𝒱₀ (tile d L) none Set.univ (base := tW) (S := Finset.univ) (q := fullShare) (Finset.subset_univ _)) $$ H5; iintro H5
  have a10 : ∀ x, loadIdx (F := F) (e := .f32) (((tW).access (.whole S512)).read (Elt F) f5) ![c10] k10 x = tabN f5 (cell (tabN f5) (v6 x)) := fun x => by
    have := hl x
    rw [hr, loadIdx_tab, hcell x, BitVec.toNat_ofNat, Nat.mod_eq_of_lt (by omega)]
  generalize loadIdx (F := F) (e := .f32) (((tW).access (.whole S512)).read (Elt F) f5) ![c10] k10 = v60 at a10 ⊢
  -- the cell's right end
  have hcell' : ∀ x, k0_pay4 c10 x = BitVec.ofNat 32 (cell (tabN f5) (v6 x) + 1) := fun x => by
    rw [BitVec.ofNat_add, ← hcell x]; rfl
  generalize k0_pay4 c10 = c11 at hcell' ⊢
  have k11 := chk_of_nat hcell' (fun x => by have := hl x; omega)
  rw [wp_assume_of _ _ _ _ (show k0_chk11 c11 from k11)]
  iapply (SparseCore.wp_vectorLoadIdx 𝒱₀ (tile d L) none Set.univ (base := tW) (S := Finset.univ) (q := fullShare) (Finset.subset_univ _)) $$ H5; iintro H5
  have a11 : ∀ x, loadIdx (F := F) (e := .f32) (((tW).access (.whole S512)).read (Elt F) f5) ![c11] k11 x = tabN f5 (cell (tabN f5) (v6 x) + 1) := fun x => by
    have := hl x
    rw [hr, loadIdx_tab, hcell' x, BitVec.toNat_ofNat, Nat.mod_eq_of_lt (by omega)]
  generalize loadIdx (F := F) (e := .f32) (((tW).access (.whole S512)).read (Elt F) f5) ![c11] k11 = v63 at a11 ⊢
  have hw : ∀ x, k0_pay5 v6 c10 v60 v63 x = lane (tabN f5) (lanesOf f6 k x) := fun x => by
    have hs : ∀ v : FVec F S16 .f32, shapeCast S16 v shapeCasts_S16_S16 x = v x := fun v => by
      show v (Shape.reshapeEquiv _ x) = v x
      rw [Shape.reshapeEquiv_self]
    unfold k0_pay5
    refine (hs _).trans ?_
    rw [← e6]
    unfold lane Search.interp
    rw [← hcell x, ← a10 x, ← a11 x]
    rfl
  iapply (wp_load 𝒱₀ (tile d L) none Set.univ (m := rW) (S := Finset.univ) (Finset.subset_univ _)) $$ H7; iintro H7
  iapply (wp_store 𝒱₀ (tile d L) none Set.univ (m := rW) (r := lanesR k) (Mk := Finset.univ) (S := Finset.univ) (Finset.subset_univ _)) $$ H7; iintro H7
  rw [wp_ret]; imodintro
  isplitl [H5]; · iexact H5
  isplitl [H6]; · iexact H6
  iexists _
  isplitr; · ipureintro; exact wrote_of_store k f5 f6 f7 _ hw
  iexact H7

end Cert.Proof.KernelIdeal

end
-- ==== Proof.KernelIdealTile.lean ====
/-
  One vector subcore's task of the kernel, at a symbolic grid point: the padded table and the subcore's chunk of the
  inputs fetched into its scratches, the 2048 trips over them, the chunk of results written out. What is proved of it:
  it ends with the arrays it was lent, and the chunk of results holds, at each element, `lane` of the input there.
-/
module

public import proofs.«01_k».proof.Proof.KernelIdealTrip

@[expose] public section

noncomputable section

namespace Cert.Proof.KernelIdeal

open Cert.KernelIdeal Cert.KernelIdeal.Gen Cert.Search

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The chunk of the inputs, and of the results, that grid point `L` handles. -/
abbrev chunkR (L : grid0.Coords) : Rect S1048576 := Rect.unit (s := S1048576) (k0_off1 L) S32768.size (k0_off1_inb L)
/-- Those chunks of the arrays, as the task slices them. -/
abbrev uC (L : grid0.Coords) : Memref sig .scVector .hbm S32768 .f32 := (uA).slice (chunkR L) (fun _ => rfl)
abbrev oC (L : grid0.Coords) : Memref sig .scVector .hbm S32768 .f32 := (oA).slice (chunkR L) (fun _ => rfl)

/-- The whole array of results: each element the lane value of the input there. -/
def results (tb : S512.Idx → F .f32) (u : S1048576.Idx → F .f32) : S1048576.Idx → F .f32 := fun i => lane (tabN tb) (u i)

/-- What the task is lent: a share of the padded table, its chunk of the inputs, and its chunk of the results at `o`. -/
abbrev lent (q : PosShare TreeShare) (tb : S512.Idx → F .f32) (u o : S1048576.Idx → F .f32) : sProp 𝕄 :=
  iprop(((tA).view.loc (tile d L) ↦{q} tb) ∗ ((uC L).view.loc (tile d L) ↦[(uC L).view.set]{fullShare} u)
    ∗ ((oC L).view.loc (tile d L) ↦[(oC L).view.set]{fullShare} o))

omit [FloatOps F] in
/-- The subcore's own semaphores: the three the task uses, and the rest. -/
theorem own_sems :
    (ownSems0 (tile d L) : sProp 𝕄)
      = iprop(semVal (tile d L, SemLoc.dma cc0_scoped0.sem) 0 ∗ semVal (tile d L, SemLoc.dma cc0_scoped1.sem) 0
          ∗ semVal (tile d L, SemLoc.dma cc0_scoped2.sem) 0
          ∗ bigSep ((((ownCells (tile d L)).erase (tile d L, SemLoc.dma cc0_scoped0.sem)).erase (tile d L, SemLoc.dma cc0_scoped1.sem)).erase
              (tile d L, SemLoc.dma cc0_scoped2.sem)) fun g => semVal g 0) := by
  have mem : ∀ s : SemLoc sig, s.isScoped .scVector = true → ((tile d L, s) : GSem nD τ sig) ∈ ownCells (tile d L) :=
    fun s h => (mem_ownCells (g := (tile d L, s))).mpr ⟨rfl, h⟩
  have ne : ∀ s s' : SemLoc sig, s ≠ s' → ((tile d L, s) : GSem nD τ sig) ≠ (tile d L, s') := fun s s' h e => h (Prod.ext_iff.mp e).2
  unfold SparseCore.Cfg.ownSems0
  rw [SparseCore.bigSep_erase' (mem (SemLoc.dma cc0_scoped0.sem) (by decide)),
    SparseCore.bigSep_erase' (Finset.mem_erase.mpr ⟨ne _ _ (by decide), mem (SemLoc.dma cc0_scoped1.sem) (by decide)⟩),
    SparseCore.bigSep_erase' (Finset.mem_erase.mpr ⟨ne _ _ (by decide), Finset.mem_erase.mpr ⟨ne _ _ (by decide), mem (SemLoc.dma cc0_scoped2.sem) (by decide)⟩⟩)]

omit [FloatOps F] in
/-- The subcore's own buffers: the three scratches, each at some contents, and the rest. -/
theorem own_bufs :
    (ownBufs (tile d L) : sProp 𝕄)
      = iprop((∃ f, (tW).view.loc (tile d L) ↦{fullShare} f) ∗ (∃ f, (uW).view.loc (tile d L) ↦{fullShare} f)
          ∗ (∃ f, (rW).view.loc (tile d L) ↦{fullShare} f)
          ∗ bigSep ((((ownRefs (τ := τ) (tile d L).2).erase ((tile d L).2.devRef cc0_scratch0)).erase ((tile d L).2.devRef cc0_scratch1)).erase
              ((tile d L).2.devRef cc0_scratch2)) fun b => iprop(∃ f, ((d, b) : Loc nD τ sig) ↦{fullShare} f)) := by
  have ne : ∀ a b : Fin 3, a ≠ b → ((tile d L).2.devRef (⟨.vmem, a, rfl⟩ : Ref sig .scVector)) ≠ (tile d L).2.devRef (⟨.vmem, b, rfl⟩ : Ref sig .scVector) := by
    intro a b h e
    apply h
    injection e
  have mem : ∀ a : Fin 3, (tile d L).2.devRef (⟨.vmem, a, rfl⟩ : Ref sig .scVector) ∈ ownRefs (τ := τ) (tile d L).2 :=
    fun a => SparseCore.Cfg.mem_ownRefs_of_owner rfl
  unfold SparseCore.Cfg.ownBufs
  rw [SparseCore.bigSep_erase' (mem 0), SparseCore.bigSep_erase' (Finset.mem_erase.mpr ⟨ne _ _ (by decide), mem 1⟩),
    SparseCore.bigSep_erase' (Finset.mem_erase.mpr ⟨ne _ _ (by decide), Finset.mem_erase.mpr ⟨ne _ _ (by decide), mem 2⟩⟩)]

/-- The chunk of the inputs as the fetch stages it. -/
def staged (L : grid0.Coords) (u : S1048576.Idx → F .f32) : S32768.Idx → F .f32 := fun j => u ((chunkR L).emb j)

/-- The trips' invariant: the staged table and inputs as fetched, and the results of the first `16 t` lanes written. -/
def inv (tb : S512.Idx → F .f32) (x : S32768.Idx → F .f32) (t : ℕ) (_ : PUnit) : sProp 𝕄 :=
  iprop(((tW).view.loc (tile d L) ↦{fullShare} tb) ∗ ((uW).view.loc (tile d L) ↦{fullShare} x)
    ∗ ∃ f : S32768.Idx → F .f32, ⌜∀ j : S32768.Idx, (j 0).val < 16 * t → f j = lane (tabN tb) (x j)⌝ ∗ ((rW).view.loc (tile d L) ↦{fullShare} f))

set_option maxHeartbeats 2000000 in
/-- The task at grid point `L`: lent a share of the padded table, its chunk of the inputs and its chunk of the results, it
    hands them back with the chunk of results at `results`, and its scratches and semaphores as it found them. -/
theorem tile_body (hF : (K (F := F)).Facts) (q : PosShare TreeShare) (tb : S512.Idx → F .f32) (u o : S1048576.Idx → F .f32)
    (O : CellTallies nD τ sig (HIx 1)) (W : Waits sig (HIx 1)) (hO : ∀ g, O g none = 0) :
    iprop(levAts (K (F := F)).L (K (F := F)).lev ∗ emp ∗ lent d L q tb u o
        ∗ scopedBufs (tile d L) ∗ scopedSems0 (tile d L) ∗ owes (tile d L) O W)
      ⊢ (wp frame (wpE (defs₀ (F := F)) 𝒱₀ (tile d L) none) Set.univ
          (cc0__sample_kernel L uA (Memref.isWhole_whole _) tA (Memref.isWhole_whole _) oA (Memref.isWhole_whole _) tW (Memref.isWhole_whole _)
            uW (Memref.isWhole_whole _) rW (Memref.isWhole_whole _) cc0_scoped0 cc0_scoped1 cc0_scoped2)
          fun _ => iprop(lent d L q tb u (results tb u) ∗ scopedBufs (tile d L) ∗ scopedSems0 (tile d L)
            ∗ ∃ W', ⌜∀ p ∈ W', p ∈ W ∨ p.2 = none⌝ ∗ owes (tile d L) O W') : sProp 𝕄) := by
  simp only [cc0__sample_kernel_eq_skeleton]; unfold cc0__sample_kernel_skel
  rw [(K (F := F)).scopedBufs_V hF d _ _, SparseCore.Cfg.scopedSems0_V (Val := Elt F) d _ _, own_sems, own_bufs]
  iintro ⟨#Hlv, -, ⟨Htb, Hu, Ho⟩, ⟨⟨%f5, H5⟩, ⟨%f6, H6⟩, ⟨%f7, H7⟩, Hbufs⟩, ⟨Hs0, Hs1, Hs2, Hsems⟩, HO⟩
  ihave Hmw := ((K (F := F)).mayWaits_none (thr := tile d L) hO) $$ Hlv
  sl_exec
  unfold tile_body.sl.dma0 tile_body.sl.dma0_1
  have e5 : View.write (Elt F) (tW).view f5 ((tA).view.read (Elt F) tb) Finset.univ = tb :=
    View.write_whole_univ ..
  have e6 : View.write (Elt F) (uW).view f6 ((uC L).view.read (Elt F) u) Finset.univ = staged L u :=
    View.write_whole_univ ..
  ihave H5' := (Entails.of_eq (congrArg (fun f => ((tW).view.loc (tile d L) ↦{fullShare} f : sProp 𝕄)) e5)) $$ H5
  ihave H6' := (Entails.of_eq (congrArg (fun f => ((uW).view.loc (tile d L) ↦{fullShare} f : sProp 𝕄)) e6)) $$ H6
  sl_for (inv d L tb (staged L u)) $$ [H5' H6' H7]
  case region =>
    intro k _
    unfold inv
    iintro ⟨H5, H6, %f, %hf, H7⟩
    ihave Ht := (trip_run d L k tb (staged L u) f) $$ [H5 H6 H7]
    · isplitl [H5]; · iexact H5
      isplitl [H6]; · iexact H6
      iexact H7
    iapply (wp_wand frame _ _) $$ [Ht]
    · iexact Ht
    iintro %_ ⟨H5, H6, %f', %hf', H7⟩
    isplitl [H5]; · iexact H5
    isplitl [H6]; · iexact H6
    iexists f'
    isplitr
    · ipureintro
      intro j hj
      by_cases h : (j 0).val < 16 * k.val
      · exact (hf'.2 j h).trans (hf j h)
      · exact hf'.1 j (by omega) (by omega)
    iexact H7
  · unfold inv
    isplitl [H5']; · iexact H5'
    isplitl [H6']; · iexact H6'
    iexists f7
    isplitr
    · ipureintro; intro j hj; omega
    iexact H7
  iintro %_ HI
  unfold inv
  icases HI with ⟨H5, H6, %f, %hf, H7⟩
  replace hf : ∀ j, f j = lane (tabN tb) (staged L u j) := fun j => hf j (by
    have h : (j 0).val < 32768 := (j 0).isLt
    have e : k0_t1_loop.trips = 2048 := by decide
    show (j 0).val < 16 * k0_t1_loop.trips
    rw [e]; omega)
  sl_exec
  sl_step
  unfold tile_body.sl.dma0_2
  have eo : ∀ i ∈ (oC L).view.set, (oC L).view.writes (Elt F) o [⟨Rect.whole S32768, (rW).view.read (Elt F) f⟩] i = results tb u i := by
    intro i hi
    obtain ⟨j, -, rfl⟩ := Finset.mem_map.mp hi
    have h := congrFun (View.read_writes_whole (Val := Elt F) (oC L).view o ((rW).view.read (Elt F) f)) j
    rw [View.read_apply] at h
    exact ((cast_eq _ _).symm.trans h).trans (hf j)
  isplitl [Htb Hu Ho]
  · isplitl [Htb]; · iexact Htb
    isplitl [Hu]; · iexact Hu
    iapply (Entails.of_eq (pointsTo_congr (ℓ := (oC L).view.loc (tile d L)) (I := (oC L).view.set) (q := fullShare) eo))
    iexact Ho
  isplitl [H5 H6 H7 Hbufs]
  · isplitl [H5]; · iexists _; iexact H5
    isplitl [H6]; · iexists _; iexact H6
    isplitl [H7]; · iexists _; iexact H7
    iexact Hbufs
  isplitl [Hs0 Hs1 Hs2 Hsems]
  · isplitl [Hs0]; · iexact Hs0
    isplitl [Hs1]; · iexact Hs1
    isplitl [Hs2]; · iexact Hs2
    iexact Hsems
  iexists (insert (SemLoc.dma cc0_scoped2.sem, (default : HIx 1)) (insert (SemLoc.dma cc0_scoped1.sem, (default : HIx 1))
    (insert (SemLoc.dma cc0_scoped0.sem, (default : HIx 1)) W)))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Cert.Proof.KernelIdeal

end
-- ==== Proof.KernelIdealLaunch.lean ====
/-
  The program's run. The host pads the table to 512 entries; the SparseCore call lends each of the 32 vector subcores a
  read share of that table, its chunk of the inputs and its chunk of the results; the chunks come back as one array, at
  `results`. `run_main`: every run ends, the four arguments unchanged, the result array at `results`, every semaphore
  counter at zero.
-/
module

public import proofs.«01_k».proof.Proof.KernelIdealTile

@[expose] public section

noncomputable section

namespace Cert.Proof.KernelIdeal

open Cert.KernelIdeal Cert.KernelIdeal.Gen Cert.Search

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-- The call's semaphores are distinct and of the kinds that the handshake needs. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor of the ghost state. -/
abbrev EH : Emb UH (MT nD τ sig (HIx 1) (Elt F) ℕ UU ℕ) := embL

variable [FloatOps F]
variable (m : (ℓ : Loc nD τ sig) → Buf (Elt F) ℓ) (ρ : Dev nD → PrngReg)

/-! ## The arrays and what the call lends of them -/

abbrev a0 (d : Dev nD) : Loc nD τ sig := (SparseCore.T d).loc main_arg0
abbrev a1 (d : Dev nD) : Loc nD τ sig := (SparseCore.T d).loc main_arg1
abbrev a2 (d : Dev nD) : Loc nD τ sig := (SparseCore.T d).loc main_arg2
abbrev a3 (d : Dev nD) : Loc nD τ sig := (SparseCore.T d).loc main_arg3
abbrev tbLoc (d : Dev nD) : Loc nD τ sig := (SparseCore.T d).loc main_v1
abbrev outLoc (d : Dev nD) : Loc nD τ sig := (SparseCore.T d).loc main_v2

/-- The table padded to 512 entries. -/
def padded (t : S257.Idx → F .f32) : S512.Idx → F .f32 :=
  concatenate (α := F .f32) S512 0 [⟨S257, t⟩, ⟨S255, broadcastInDim S255 ![] bcast_S_S255 (constant S_ .f32 0x40000000#32)⟩] concatenates_S257_S255_S512_d0

/-- The grid point of vector subcore `p.2` of SparseCore `p.1`. -/
def point (p : Fin 2 × Fin 16) : grid0.Coords :=
  fun | 0 => p.1 | 1 => p.2 | ⟨_ + 2, h⟩ => absurd h (Nat.not_lt.2 (Nat.le_add_left _ _))

/-- The share of the padded table subcore `p` reads under. -/
def share (p : Fin 2 × Fin 16) : PosShare TreeShare := Transfers.shareTok fullShare 32 (finProdFinEquiv p)

/-- What subcore `p` is lent, the results at `o`. -/
abbrev lentTo (d : Dev nD) (o : Buf (Elt F) (outLoc d)) (p : Fin 2 × Fin 16) : sProp 𝕄 :=
  lent d (point p) (share p) (padded (m (a2 d))) (m (a0 d)) o

/-- The results as the call leaves them. -/
abbrev outs (d : Dev nD) : Buf (Elt F) (outLoc d) := results (padded (m (a2 d))) (m (a0 d))

/-- The payloads of the call: a subcore is handed what `lentTo` says, and hands it back with its results written; a
    SparseCore's sequencer passes its sixteen subcores' parts through. -/
def P : (K (F := F)).Pay (nD := nD) (Val := Elt F) (Name := ℕ) (U := UU) where
  st := fun q d c => match q with | 0 => bigSep Finset.univ fun i : Fin 16 => lentTo m d (m (outLoc d)) (c, i)
  dn := fun q d c => match q with | 0 => bigSep Finset.univ fun i : Fin 16 => lentTo m d (outs m d) (c, i)
  go := fun q d c i => match q with | 0 => lentTo m d (m (outLoc d)) (c, i)
  td := fun q d c i => match q with | 0 => lentTo m d (outs m d) (c, i)
  x := fun _ _ => iprop(emp)

instance P_storable : (P (F := F) m).IsStorable where
  st q d c := match q with
    | 0 => (inferInstance : BI.Storable (upEmb : UEmb _ 𝕄) (bigSep Finset.univ fun i : Fin 16 => lentTo m d (m (outLoc d)) (c, i)))
  dn q d c := match q with
    | 0 => (inferInstance : BI.Storable (upEmb : UEmb _ 𝕄) (bigSep Finset.univ fun i : Fin 16 => lentTo m d (outs m d) (c, i)))
  go q d c i := match q with
    | 0 => (inferInstance : BI.Storable (upEmb : UEmb _ 𝕄) (lentTo m d (m (outLoc d)) (c, i)))
  td q d c i := match q with
    | 0 => (inferInstance : BI.Storable (upEmb : UEmb _ 𝕄) (lentTo m d (outs m d) (c, i)))

/-! ## The chunks are the array -/

omit [FloatOps F] in
theorem set_uC (p : Fin 2 × Fin 16) : (uC (point p)).view.set = (chunkR (point p)).set := by
  show ((View.whole main_arg0_scv).slice (chunkR (point p))).set = _
  rw [View.set_slice]; exact Finset.map_refl

omit [FloatOps F] in
theorem set_oC (p : Fin 2 × Fin 16) : (oC (point p)).view.set = (chunkR (point p)).set := by
  show ((View.whole main_v2_scv).slice (chunkR (point p))).set = _
  rw [View.set_slice]; exact Finset.map_refl

/-- A chunk is 32768 consecutive elements, and the chunk of subcore `p` starts at 65536 `p.2` + 32768 `p.1`. -/
theorem mem_chunk (p : Fin 2 × Fin 16) (i : S1048576.Idx) :
    i ∈ (chunkR (point p)).set ↔ 65536 * p.2.val + 32768 * p.1.val ≤ (i 0).val ∧ (i 0).val < 65536 * p.2.val + 32768 * p.1.val + 32768 := by
  unfold chunkR
  rw [Rect.mem_set_unit, k0_off1_eq]
  constructor
  · intro h; exact h 0
  · intro h a
    obtain rfl : a = 0 := Fin.eq_zero a
    exact h

/-- Two subcores' chunks share no element. -/
theorem chunks_disjoint : ∀ p ∈ (Finset.univ : Finset (Fin 2 × Fin 16)), ∀ p' ∈ (Finset.univ : Finset (Fin 2 × Fin 16)), p ≠ p' →
    Disjoint (chunkR (point p)).set (chunkR (point p')).set := by
  intro p _ p' _ h
  rw [Finset.disjoint_left]
  intro i hi hi'
  rw [mem_chunk] at hi hi'
  apply h
  have h1 := p.1.isLt
  have h2 := p'.1.isLt
  exact Prod.ext (Fin.ext (by omega)) (Fin.ext (by omega))

/-- Every element is in some subcore's chunk. -/
theorem chunks_cover : (Finset.univ : Finset (Fin 2 × Fin 16)).biUnion (fun p => (chunkR (point p)).set) = Finset.univ := by
  refine Finset.eq_univ_of_forall fun i => Finset.mem_biUnion.mpr ?_
  have h : (i 0).val < 1048576 := (i 0).isLt
  refine ⟨(⟨(i 0).val / 32768 % 2, by omega⟩, ⟨(i 0).val / 65536, by omega⟩), Finset.mem_univ _, (mem_chunk _ _).mpr ?_⟩
  show 65536 * ((i 0).val / 65536) + 32768 * ((i 0).val / 32768 % 2) ≤ (i 0).val ∧ _ < 65536 * ((i 0).val / 65536) + 32768 * ((i 0).val / 32768 % 2) + 32768
  omega

/-- The array of inputs is its 32 chunks. -/
theorem inputs_split (d : Dev nD) (f : Buf (Elt F) (a0 d)) :
    (a0 d ↦{fullShare} f : sProp 𝕄) = bigSep Finset.univ fun p : Fin 2 × Fin 16 => a0 d ↦[(chunkR (point p)).set]{fullShare} f := by
  rw [← pointsTo_biUnion Finset.univ (ℓ := a0 d) (fun p : Fin 2 × Fin 16 => (chunkR (point p)).set) chunks_disjoint, chunks_cover]
/-- The array of results is its 32 chunks. -/
theorem outs_split (d : Dev nD) (f : Buf (Elt F) (outLoc d)) :
    (outLoc d ↦{fullShare} f : sProp 𝕄) = bigSep Finset.univ fun p : Fin 2 × Fin 16 => outLoc d ↦[(chunkR (point p)).set]{fullShare} f := by
  rw [← pointsTo_biUnion Finset.univ (ℓ := outLoc d) (fun p : Fin 2 × Fin 16 => (chunkR (point p)).set) chunks_disjoint, chunks_cover]

/-- The 32 subcores' shares of the table. -/
theorem shares_eq (d : Dev nD) (f : Buf (Elt F) (tbLoc d)) :
    (bigSep Finset.univ fun p : Fin 2 × Fin 16 => (tbLoc d ↦{share p} f : sProp 𝕄))
      = bigSep Finset.univ fun i : Fin 32 => tbLoc d ↦{Transfers.shareTok fullShare 32 i} f :=
  (bigSep_univ_equiv (finProdFinEquiv (m := 2) (n := 16)) fun i : Fin 32 => (tbLoc d ↦{Transfers.shareTok fullShare 32 i} f : sProp 𝕄)).symm

/-- What the 32 subcores are lent is their shares of the table, the whole array of inputs, and the whole array of results. -/
theorem lent_eq (d : Dev nD) (o : Buf (Elt F) (outLoc d)) :
    (bigSep Finset.univ fun p : Fin 2 × Fin 16 => lentTo m d o p)
      = (iprop((bigSep Finset.univ fun i : Fin 32 => tbLoc d ↦{Transfers.shareTok fullShare 32 i} padded (m (a2 d)))
          ∗ (a0 d ↦{fullShare} m (a0 d)) ∗ (outLoc d ↦{fullShare} o)) : sProp 𝕄) := by
  rw [← shares_eq, inputs_split, outs_split, ← bigSep_sep', ← bigSep_sep']
  refine bigSep_congr fun p _ => ?_
  unfold lentTo lent
  rw [set_uC, set_oC]

theorem st_eq (d : Dev nD) :
    (bigSep Finset.univ fun c : Fin ((K (F := F)).nCore 0) => (P m).st 0 d c) = bigSep Finset.univ fun p : Fin 2 × Fin 16 => lentTo m d (m (outLoc d)) p :=
  (bigSep_univ_prod fun p : Fin 2 × Fin 16 => lentTo m d (m (outLoc d)) p).symm
theorem dn_eq (d : Dev nD) :
    (bigSep Finset.univ fun c : Fin ((K (F := F)).nCore 0) => (P m).dn 0 d c) = bigSep Finset.univ fun p : Fin 2 × Fin 16 => lentTo m d (outs m d) p :=
  (bigSep_univ_prod fun p : Fin 2 × Fin 16 => lentTo m d (outs m d) p).symm

/-! ## The launch's obligations -/

theorem defs₀_vector (c : Fin τ.nSC) (s : Fin τ.nSub) :
    defs₀ (F := F) (.scVector c s) 0 ()
      = SparseCore.onTile hcore0 hsub0 (fun c s => cc0__sample_kernel (point (c, s)) uA (Memref.isWhole_whole _) tA (Memref.isWhole_whole _)
          oA (Memref.isWhole_whole _) tW (Memref.isWhole_whole _) uW (Memref.isWhole_whole _) rW (Memref.isWhole_whole _)
          cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task keeps its part of the handshake. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (point (c, i)) facts (share (c, i)) (padded (m (a2 d))) (m (a0 d)) (m (outLoc d)) O W hO).trans
    (wp_mono frame _ _ fun _ => obl_post)

/-- A SparseCore's part is what its sixteen subcores are handed, and what they hand back is the part it returns. -/
theorem vecSplit : (K (F := F)).VecSplit' (P m) 0 := by
  intro d c
  show (bigSep Finset.univ fun i : Fin 16 => lentTo m d (m (outLoc d)) (c, i)) ⊢ |={Set.univ}=> iprop(
      (bigSep Finset.univ fun i : Fin 16 => lentTo m d (m (outLoc d)) (c, i))
      ∗ ((bigSep Finset.univ fun i : Fin 16 => lentTo m d (outs m d) (c, i)) -∗ (bigSep Finset.univ fun i : Fin 16 => lentTo m d (outs m d) (c, i))))
  iintro H; imodintro
  isplitl [H]; · iexact H
  iintro H; iexact H

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, -⟩
  imodintro
  isplitl [HH]; · iexact HH
  isplitr; · rw [he]; iempintro
  unfold P; dsimp only
  rw [show (bigSep Finset.univ fun _ : Thread nD τ => bigSep Finset.univ fun _ : Fin 1 => (iprop(emp) : sProp 𝕄)) = iprop(emp) from by
    rw [bigSep_congr fun _ _ => he _, he]]
  iempintro

/-! ## The host program -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev b3 : DevRef τ sig := Proc.devRef .tc (main_arg3 : Ref sig .tc)
abbrev b4 : DevRef τ sig := Proc.devRef .tc (main_cst : Ref sig .tc)
abbrev b5 : DevRef τ sig := Proc.devRef .tc (main_v0 : Ref sig .tc)
abbrev b6 : DevRef τ sig := Proc.devRef .tc (main_v1 : Ref sig .tc)
abbrev b7 : DevRef τ sig := Proc.devRef .tc (main_v2 : Ref sig .tc)

abbrev op1 : HloOp τ sig (Elt F) := StableHlo.nullary main_cst (constant S_ .f32 0x40000000#32)
abbrev op2 : HloOp τ sig (Elt F) :=
  StableHlo.unary main_cst main_v0 (broadcastInDim S255 ![] bcast_S_S255 : (⟨S_, .f32⟩ : BufTy).Contents (Elt F) → (⟨S255, .f32⟩ : BufTy).Contents (Elt F))
abbrev op3 : HloOp τ sig (Elt F) := StableHlo.binary main_arg2 main_v0 main_v1 ((fun a b => concatenate S512 0 [⟨S257, a⟩, ⟨S255, b⟩] concatenates_S257_S255_S512_d0) : (⟨S257, .f32⟩ : BufTy).Contents (Elt F) → (⟨S255, .f32⟩ : BufTy).Contents (Elt F) → (⟨S512, .f32⟩ : BufTy).Contents (Elt F))

/-- The host's arrays. -/
abbrev S8 : Finset (DevRef τ sig) := {b0, b1, b2, b3, b4, b5, b6, b7}

omit [FloatOps F] in
theorem held_S8 (d : Dev nD) (W : Valuation τ sig (Elt F)) :
    (held (SparseCore.T d) S8 W : sProp 𝕄) = iprop((a0 d ↦{fullShare} W b0) ∗ (a1 d ↦{fullShare} W b1) ∗ (a2 d ↦{fullShare} W b2) ∗ (a3 d ↦{fullShare} W b3)
      ∗ ((SparseCore.T d).loc main_cst ↦{fullShare} W b4) ∗ ((SparseCore.T d).loc main_v0 ↦{fullShare} W b5) ∗ (tbLoc d ↦{fullShare} W b6) ∗ (outLoc d ↦{fullShare} W b7)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and after each of the three host operations. -/
def V0 (d : Dev nD) : Valuation τ sig (Elt F) := fun b => m (d, b)
def V3 (d : Dev nD) : Valuation τ sig (Elt F) := (op3 (F := F)).result ((op2 (F := F)).result ((op1 (F := F)).result (V0 m d)))

omit [FloatOps F] in
theorem unscoped_held (d : Dev nD) : (unscopedBufs d (fun b => m ((SparseCore.T d).loc b)) : sProp 𝕄) = held (SparseCore.T d) S8 (V0 m d) := by
  rw [held_S8]
  unfold unscopedBufs
  rw [show (Finset.univ.filter fun b : Ref sig .tc => ¬ b.isScoped) = {main_arg0, main_arg1, main_arg2, main_arg3, main_cst, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The host operations leave every array but the three that they write. -/
theorem V3_keep (d : Dev nD) {b : DevRef τ sig} (h4 : b ≠ b4) (h5 : b ≠ b5) (h6 : b ≠ b6) : V3 m d b = m (d, b) := by
  unfold V3
  rw [HloOp.result_of_not_mem _ _ (show b ∉ ({b6} : Finset (DevRef τ sig)) from fun h => h6 (Finset.mem_singleton.mp h)),
    HloOp.result_of_not_mem _ _ (show b ∉ ({b5} : Finset (DevRef τ sig)) from fun h => h5 (Finset.mem_singleton.mp h)),
    HloOp.result_of_not_mem _ _ (show b ∉ ({b4} : Finset (DevRef τ sig)) from fun h => h4 (Finset.mem_singleton.mp h))]
  rfl

/-- The host operations leave the padded table. -/
theorem V3_table (d : Dev nD) : V3 m d b6 = padded (m (a2 d)) := by
  unfold V3
  rw [StableHlo.binary_result, StableHlo.unary_result, StableHlo.nullary_result,
    HloOp.result_of_not_mem _ _ (show b2 ∉ ({b5} : Finset (DevRef τ sig)) by decide),
    HloOp.result_of_not_mem _ _ (show b2 ∉ ({b4} : Finset (DevRef τ sig)) by decide)]
  rfl

/-- What the host keeps to the end: the arguments as they were, the results at `outs`. -/
abbrev FIN (d : Dev nD) : sProp 𝕄 :=
  iprop((a0 d ↦{fullShare} m (a0 d)) ∗ (a1 d ↦{fullShare} m (a1 d)) ∗ (a2 d ↦{fullShare} m (a2 d)) ∗ (a3 d ↦{fullShare} m (a3 d))
    ∗ (outLoc d ↦{fullShare} outs m d))

/-- The host program: it pads the table, runs the call, and ends with the arguments as they were and the results at `outs`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S8) (show ({b4} : Finset (DevRef τ sig)) ⊆ S8 by decide) (V := V0 m d)) $$ [Hb Hheld]
  · isplitl [Hb] <;> iassumption
  iintro ⟨Hb, Hheld⟩
  rw [wp_ret]; imodintro
  iapply (wp_hlo_within 𝒱 (SparseCore.T d) none Set.univ (op := op2) (S := S8) (show ({b4, b5} : Finset (DevRef τ sig)) ⊆ S8 by decide)
    (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := S8) (show ({b2, b5, b6} : Finset (DevRef τ sig)) ⊆ S8 by decide)
    (V := (op2 (F := F)).result ((op1 (F := F)).result (V0 m d)))) $$ [Hb Hheld]
  · isplitl [Hb] <;> iassumption
  iintro ⟨Hb, Hheld⟩
  rw [wp_ret]; imodintro
  ihave Hh := (Entails.of_eq (held_S8 (F := F) d (op3.result (op2.result (op1.result (V0 m d)))))) $$ Hheld
  rw [show (op3 (F := F)).result ((op2 (F := F)).result ((op1 (F := F)).result (V0 m d))) = V3 m d from rfl]
  rw [V3_table m d, V3_keep m d (b := b0) (by decide) (by decide) (by decide), V3_keep m d (b := b1) (by decide) (by decide) (by decide),
    V3_keep m d (b := b2) (by decide) (by decide) (by decide), V3_keep m d (b := b3) (by decide) (by decide) (by decide),
    V3_keep m d (b := b7) (by decide) (by decide) (by decide)]
  icases Hh with ⟨H0, H1, H2, H3, -, -, Ht, Ho⟩
  ihave Ht' := (Transfers.pointsTo_toks_split (ℓ := tbLoc d) (S := Finset.univ) (f := padded (m (a2 d))) fullShare 32) $$ Ht
  icases Ht' with ⟨-, Htoks⟩
  iapply ((K (F := F)).wp_run (D (F := F)) 𝒱 (EH := EH) (P := P m) κ d 0) $$ [Hst H0 H1 H2 H3 Htoks Ho Hb Hts]
  isplitr; · iexact Hctx
  isplitl [Hst]; · iexact Hst
  isplitl [H0 Htoks Ho]
  · rw [st_eq, lent_eq]
    isplitl [Htoks]; · iexact Htoks
    isplitl [H0]; · iexact H0
    iexact Ho
  iintro ⟨Hst, Hdn⟩
  ihave Hdn' := (Entails.of_eq ((dn_eq m d).trans (lent_eq m d (outs m d)))) $$ Hdn
  icases Hdn' with ⟨-, H0, Ho⟩
  imodintro
  isplitl [Hst]; · iexact Hst
  isplitr [Hb Hts]
  · isplitl [H0]; · iexact H0
    isplitl [H1]; · iexact H1
    isplitl [H2]; · iexact H2
    isplitl [H3]; · iexact H3
    iexact Ho
  isplitl [Hb] <;> iassumption

/-! ## The run -/

/-- What a final memory holds on device `d`. -/
def Ends (d : Dev nD) (f : (ℓ : Loc nD τ sig) → Buf (Elt F) ℓ) : Prop :=
  f (a0 d) = m (a0 d) ∧ f (a1 d) = m (a1 d) ∧ f (a2 d) = m (a2 d) ∧ f (a3 d) = m (a3 d) ∧ f (outLoc d) = outs m d

/-- What the host keeps to the end, the final memory holds. -/
theorem hfin (d : Dev nD) (s' : Phys nD τ sig (Elt F)) : iprop(FIN m d ∗ SI s') ⊢ (⌜Ends m d s'.mem.mem⌝ : sProp 𝕄) := by
  have agree : ∀ (ℓ : Loc nD τ sig) (f : Buf (Elt F) ℓ), iprop(SI s' ∗ (ℓ ↦{fullShare} f)) ⊢ (iprop(⌜s'.mem.mem ℓ = f⌝ ∗ SI s' ∗ (ℓ ↦{fullShare} f)) : sProp 𝕄) := by
    intro ℓ f
    iintro H
    ihave H' := (persistent_entails_right (SI_pointsTo_agree (st := s') (ℓ := ℓ) (I := Finset.univ) (q := fullShare) (f := f))) $$ H
    icases H' with ⟨%h, HS, HP⟩
    isplitr; · ipureintro; exact funext fun i => h i (Finset.mem_univ i)
    isplitl [HS] <;> iassumption
  iintro ⟨⟨H0, H1, H2, H3, Ho⟩, HSI⟩
  ihave H := (agree (a0 d) _) $$ [HSI H0]
  · isplitl [HSI] <;> iassumption
  icases H with ⟨%e0, HSI, -⟩
  ihave H := (agree (a1 d) _) $$ [HSI H1]
  · isplitl [HSI] <;> iassumption
  icases H with ⟨%e1, HSI, -⟩
  ihave H := (agree (a2 d) _) $$ [HSI H2]
  · isplitl [HSI] <;> iassumption
  icases H with ⟨%e2, HSI, -⟩
  ihave H := (agree (a3 d) _) $$ [HSI H3]
  · isplitl [HSI] <;> iassumption
  icases H with ⟨%e3, HSI, -⟩
  ihave H := (agree (outLoc d) _) $$ [HSI Ho]
  · isplitl [HSI] <;> iassumption
  icases H with ⟨%e4, -, -⟩
  ipureintro; exact ⟨e0, e1, e2, e3, e4⟩

/-- Every run ends, with the four arguments unchanged, the result array at `outs`, and every semaphore counter at zero. -/
theorem run_main [∀ e, Nonempty (Elt F e)] :
    θ_run (Cert.KernelIdeal.defs (F := F)) (Cert.KernelIdeal.threads (F := F)) ⟨m, fun _ => 0, ρ⟩ (fun r => (∀ d : Dev nD, Ends m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s => Ends m d s.mem.mem) (hfin m)
    (fun r => (∀ d : Dev nD, Ends m d r.2.mem) ∧ r.2.sem = fun _ => 0) (fun _ h hz => ⟨h, hz⟩)

end Cert.Proof.KernelIdeal

end
-- ==== Proof.Counting.lean ====
/-
  The search over the extended reals. For a table whose first 257 entries do not decrease, the cell the nine probes
  reach is the number of those entries below the input, clipped to 255 (`cell_eq_count`): the first probe decides between
  cell 255 and the first 255 cells, and from there on only the first 255 entries are read, so what follows the 257
  entries does not matter. A product with 1/256 is a division by 256 (`interp_eq_div`).
-/
module

public import proofs.«01_k».proof.Proof.Search
public import Idealize.ShloMosaic.PureOps.Ideal.Laws

@[expose] public section

noncomputable section

namespace Cert.Counting

open Idealize.ShloMosaic Cert.Search

theorem olt_iff (a b : Ideal .f32) : FloatOps.cmpf .olt a b = 1#1 ↔ a < b := by
  show BitVec.ofBool (decide (a < b)) = 1#1 ↔ a < b
  by_cases h : a < b <;> simp [h]

theorem ole_iff (a b : Ideal .f32) : FloatOps.cmpf .ole a b = 1#1 ↔ a ≤ b := by
  show BitVec.ofBool (decide (a ≤ b)) = 1#1 ↔ a ≤ b
  by_cases h : a ≤ b <;> simp [h]

/-! ## The probes find the number of smaller entries -/

variable {T : ℕ → Ideal .f32} {x : Ideal .f32} {c : ℕ}

theorem le_hop (T : ℕ → Ideal .f32) (x : Ideal .f32) (k n : ℕ) : n ≤ hop T x k n := by
  unfold hop; split <;> omega

/-- A probe of width `k` halves the window `[n, n + 2k)` the count lies in. -/
theorem hop_window (h : ∀ j < 256, T j < x ↔ j < c) {k n : ℕ} (hk : 0 < k) (hw : n ≤ c ∧ c < n + 2 * k ∧ n + 2 * k ≤ 256) :
    hop T x k n ≤ c ∧ c < hop T x k n + k ∧ hop T x k n + k ≤ 256 := by
  have hp : FloatOps.cmpf .olt (T (n + k - 1)) x = 1 ↔ n + k - 1 < c := (olt_iff _ _).trans (h _ (by omega))
  unfold hop
  split
  · rename_i h1
    have := hp.mp h1
    omega
  · rename_i h1
    have : ¬ n + k - 1 < c := fun h2 => h1 (hp.mpr h2)
    omega

theorem cell_eq (h : ∀ j < 256, T j < x ↔ j < c) : cell T x = min c 255 := by
  unfold cell place
  have hp : FloatOps.cmpf .olt (T 255) x = 1 ↔ 255 < c := (olt_iff _ _).trans (h 255 (by omega))
  by_cases h1 : 255 < c
  · have e : hop T x 256 0 = 256 := if_pos (hp.mpr h1)
    rw [e]
    have := ((le_hop T x 128 256).trans (le_hop T x 64 _)).trans ((le_hop T x 32 _).trans (le_hop T x 16 _))
    have := this.trans (((le_hop T x 8 _).trans (le_hop T x 4 _)).trans ((le_hop T x 2 _).trans (le_hop T x 1 _)))
    omega
  · have e : hop T x 256 0 = 0 := if_neg fun h2 => h1 (hp.mp h2)
    rw [e]
    have w := hop_window h (k := 128) (n := 0) (by omega) (by omega)
    have w := hop_window h (k := 64) (by omega) w
    have w := hop_window h (k := 32) (by omega) w
    have w := hop_window h (k := 16) (by omega) w
    have w := hop_window h (k := 8) (by omega) w
    have w := hop_window h (k := 4) (by omega) w
    have w := hop_window h (k := 2) (by omega) w
    have w := hop_window h (k := 1) (by omega) w
    omega

/-- How many of the 257 entries lie below `x`. -/
def below (t : Fin 257 → Ideal .f32) (x : Ideal .f32) : ℕ := (Finset.univ.filter fun q => t q < x).card

theorem below_le (t : Fin 257 → Ideal .f32) (x : Ideal .f32) : below t x ≤ 257 := by
  unfold below
  exact (Finset.card_le_univ _).trans (by simp)

/-- Of a table that does not decrease, the entries below `x` are the first `below t x`. -/
theorem lt_iff_below {t : Fin 257 → Ideal .f32} (ht : Monotone t) (x : Ideal .f32) (j : Fin 257) : t j < x ↔ j.val < below t x := by
  unfold below
  constructor
  · intro h
    have hs : Finset.Iic j ⊆ Finset.univ.filter fun q => t q < x := fun q hq =>
      Finset.mem_filter.mpr ⟨Finset.mem_univ _, lt_of_le_of_lt (ht (Finset.mem_Iic.mp hq)) h⟩
    have := Finset.card_le_card hs
    rw [Fin.card_Iic] at this
    omega
  · intro h
    by_contra hn
    have hs : (Finset.univ.filter fun q => t q < x) ⊆ Finset.Iio j := fun q hq => by
      refine Finset.mem_Iio.mpr (lt_of_not_ge fun hjq => hn ?_)
      exact lt_of_le_of_lt (ht hjq) (Finset.mem_filter.mp hq).2
    have := Finset.card_le_card hs
    rw [Fin.card_Iio] at this
    omega

/-- The cell the search finds is the number of smaller entries, at most 255. -/
theorem cell_eq_count {t : Fin 257 → Ideal .f32} (ht : Monotone t) (hT : ∀ j : Fin 257, T j.val = t j) (x : Ideal .f32) :
    cell T x = min (below t x) 255 :=
  cell_eq fun j hj => by
    have := lt_iff_below ht x ⟨j, by omega⟩
    rwa [← hT] at this

/-! ## The interpolated value -/

theorem ofBits_256 : Ideal.ofBits .f32 0x43800000#32 = ((256 : ℝ) : EReal) := by
  simp [Ideal.ofBits, Ideal.ieee, -EReal.coe_mul]; norm_num

theorem ofBits_inv_256 : Ideal.ofBits .f32 0x3B800000#32 = ((1 / 256 : ℝ) : EReal) := by
  simp [Ideal.ofBits, Ideal.ieee, -EReal.coe_mul]; norm_num

/-- The value interpolated in cell `n`, the last step a division by 256. -/
theorem interp_eq_div (n : ℕ) (a b x : Ideal .f32) :
    Search.interp n a b x
      = FloatOps.hostDivf
          (FloatOps.addf (FloatOps.sitofp .f32 (BitVec.ofNat 32 n))
            (Scalar.select (FloatOps.cmpf .ogt (FloatOps.subf b a) (FloatOps.ofBits .f32 0x00000000#32))
              (FloatOps.hostDivf (FloatOps.subf x a)
                (Scalar.select (FloatOps.cmpf .ogt (FloatOps.subf b a) (FloatOps.ofBits .f32 0x00000000#32))
                  (FloatOps.subf b a) (FloatOps.ofBits .f32 0x3F800000#32)))
              (FloatOps.subf x a)))
          (FloatOps.ofBits .f32 0x43800000#32) := by
  rw [Ideal.hostDivf_def, Ideal.hostDivf_def, Ideal.ofBits_def (φ := .f32) 0x43800000#32, ofBits_256, Ideal.div_coe (by norm_num), ← ofBits_inv_256]
  rfl

end Cert.Counting

end
-- ==== Proof.Reference.lean ====
/-
  The reference's result, element by element, over the extended reals: at each input, `interp` of the number of smaller
  table entries clipped to 255, and of the table's entries there and one further (`value_apply`). Also what the sortedness
  precondition says of the table (`monotone_of_pre`).
-/
module

public import proofs.«01_k».proof.Proof.Counting
public import proofs.«01_k».proof.Proof.Gen.ReferenceIdeal.Run
public import proofs.«01_k».proof.Proof.Gen.Pre_cdf_sorted
public import Idealize.ShloMosaic.Lib.StableHlo.Predicate
public import Idealize.ShloMosaic.Lib.ReduceAll

@[expose] public section

noncomputable section

namespace Cert.Proof.Reference

open Cert.ReferenceIdeal Cert.ReferenceIdeal.Gen Cert.Search Cert.Counting
open Idealize.ShloMosaic Idealize.ShloMosaic.TcCoe Idealize.ShloMosaic.StableHlo.Predicate

variable {F : FTy → Type} [FloatOps F]

/-! ## The result as three named parts -/

/-- The number of table entries below each input. -/
def counts (t : FVec F S257 .f32) (u : FVec F S1048576 .f32) : IVec S1048576 32 :=
  Host.reduce IntOp.addi (extui 32 (cmpf .olt
      (broadcastInDim S1048576x257 ![0, 1] bcast_S1x257_S1048576x257_0_1 (broadcastInDim S1x257 ![1] bcast_S257_S1x257_1 t))
      (broadcastInDim S1048576x257 ![0, 1] bcast_S1048576x1_S1048576x257_0_1 (broadcastInDim S1048576x1 ![0] bcast_S1048576_S1048576x1_0 u))) natLt_1_32)
    (constantI S_ 32 0#32) reducesTo_S1048576x257_S1048576_d1 h_S_

/-- The clipped count of the table entries below each input. -/
def offs (t : FVec F S257 .f32) (u : FVec F S1048576 .f32) : IVec S1048576 32 :=
  minsi (broadcastInDim S1048576 ![] bcast_S_S1048576 (id (constantI S_ 32 255#32)))
    (maxsi (broadcastInDim S1048576 ![] bcast_S_S1048576 (id (constantI S_ 32 0#32)))
      (counts t u))

/-- Positions as a column, the negative ones counted from the table's end. -/
def column (idx : IVec S1048576 32) : IVec S1048576x1 32 :=
  broadcastInDim S1048576x1 ![0] bcast_S1048576_S1048576x1_0
    (select (cmpi .slt idx (broadcastInDim S1048576 ![] bcast_S_S1048576 (constantI S_ 32 0#32)))
      (addi idx (broadcastInDim S1048576 ![] bcast_S_S1048576 (constantI S_ 32 257#32))) idx)

/-- The table read at the positions, with a fill value where a position is outside it. -/
def taken (t : FVec F S257 .f32) (idx : IVec S1048576 32) : FVec F S1048576 .f32 :=
  select (Host.reduce IntOp.andi (andi
      (cmpi .sge (column idx) (broadcastInDim S1048576x1 ![] bcast_S_S1048576x1 (constantI S_ 32 0#32)))
      (cmpi .sle (column idx) (broadcastInDim S1048576x1 ![0, 1] bcast_S1x1_S1048576x1_0_1 (broadcastInDim S1x1 ![1] bcast_S1_S1x1_1 (constantI S1 32 256#32)))))
      (constantI S_ 1 1#1) reducesTo_S1048576x1_S1048576_d1 h_S_)
    (Host.gather gather_S257_S1048576x1_S1048576_n_0_n_n_0_1_1 t (column idx))
    (broadcastInDim S1048576 ![] bcast_S_S1048576 (constant S_ .f32 0x7FC00000#32))

/-- The interpolation from the positions and the two entries read. -/
def mixed (idx : IVec S1048576 32) (a b u : FVec F S1048576 .f32) : FVec F S1048576 .f32 :=
  Host.divf (addf (sitofp .f32 idx)
    (select (cmpf .ogt (subf b a) (broadcastInDim S1048576 ![] bcast_S_S1048576 (constant S_ .f32 0x00000000#32)))
      (Host.divf (subf u a) (select (cmpf .ogt (subf b a) (broadcastInDim S1048576 ![] bcast_S_S1048576 (constant S_ .f32 0x00000000#32)))
        (subf b a) (broadcastInDim S1048576 ![] bcast_S_S1048576 (constant S_ .f32 0x3F800000#32))))
      (subf u a)))
    (broadcastInDim S1048576 ![] bcast_S_S1048576 (constant S_ .f32 0x43800000#32))

/-- The reference's result of a table and inputs. -/
def value (t : FVec F S257 .f32) (u : FVec F S1048576 .f32) : FVec F S1048576 .f32 :=
  mixed (offs t u) (taken t (offs t u))
    (taken t (addi (offs t u) (broadcastInDim S1048576 ![] bcast_S_S1048576 (constantI S_ 32 1#32)))) u

set_option maxRecDepth 8192 in
theorem result_eq (m : (ℓ : Loc nD τ sig) → Buf (Elt F) ℓ) (c : Dev nD) :
    Value.res_out0 m c = value (m ((c.tc : Thread nD τ).loc main_arg2)) (m ((c.tc : Thread nD τ).loc main_arg0)) := by
  unfold Value.res_out0 Value.res_main_v25
  rfl

/-! ## The parts at an element -/

/-- An [n × 1] index is its row. -/
theorem eq_ixP {n : ℕ} (i : (⟨2, ![n, 1]⟩ : Shape).Idx) : i = ixP (i 0) := by
  funext b
  match b with
  | ⟨0, _⟩ => rfl
  | ⟨1, _⟩ => exact Subsingleton.elim (α := Fin 1) _ _

theorem column_apply {idx : IVec S1048576 32} {n : S1048576.Idx → ℕ} (hn : ∀ i, idx i = BitVec.ofNat 32 (n i)) (hb : ∀ i, n i ≤ 256)
    (p : Fin 1048576) : column idx (ixP p) = BitVec.ofNat 32 (n (Shape.Idx.ofFin p)) := by
  unfold column
  rw [bcast_col1]
  show Scalar.select (IntOp.cmpi .slt (idx (Shape.Idx.ofFin p)) 0#32) _ (idx (Shape.Idx.ofFin p)) = _
  rw [hn]
  have h : ¬ IntOp.cmpi .slt (BitVec.ofNat 32 (n (Shape.Idx.ofFin p))) 0#32 = 1 := fun h => by
    have := (slt_ofNat_iff (n (Shape.Idx.ofFin p)) 0 (by have := hb (Shape.Idx.ofFin p); omega) (by omega)).mp h
    omega
  unfold Scalar.select
  exact if_neg h

/-- The table read at positions within it. -/
theorem taken_apply (t : FVec F S257 .f32) {idx : IVec S1048576 32} {n : S1048576.Idx → ℕ} (hn : ∀ i, idx i = BitVec.ofNat 32 (n i))
    (hb : ∀ i, n i ≤ 256) (i : S1048576.Idx) : taken t idx i = t (Shape.Idx.ofFin ⟨n i, Nat.lt_succ_of_le (hb i)⟩) := by
  unfold taken
  have hin : Host.reduce IntOp.andi (andi
      (cmpi .sge (column idx) (broadcastInDim S1048576x1 ![] bcast_S_S1048576x1 (constantI S_ 32 0#32)))
      (cmpi .sle (column idx) (broadcastInDim S1048576x1 ![0, 1] bcast_S1x1_S1048576x1_0_1 (broadcastInDim S1x1 ![1] bcast_S1_S1x1_1 (constantI S1 32 256#32)))))
      (constantI S_ 1 1#1) reducesTo_S1048576x1_S1048576_d1 h_S_ i = 1#1 := by
    refine Host.reduce_andi_one _ _ _ _ _ rfl fun k => ?_
    show IntOp.andi (IntOp.cmpi .sge (column idx k) 0#32) (IntOp.cmpi .sle (column idx k) 256#32) = 1#1
    obtain ⟨p, rfl⟩ : ∃ p : Fin 1048576, k = ixP p := ⟨k 0, eq_ixP k⟩
    rw [column_apply hn hb]
    have hk := hb (Shape.Idx.ofFin p)
    rw [show IntOp.cmpi .sge (BitVec.ofNat 32 (n (Shape.Idx.ofFin p))) 0#32 = 1#1 from
        (sle_ofNat_iff 0 _ (by omega) (by omega)).mpr (by omega),
      show IntOp.cmpi .sle (BitVec.ofNat 32 (n (Shape.Idx.ofFin p))) 256#32 = 1#1 from
        (sle_ofNat_iff _ 256 (by omega) (by omega)).mpr hk]
    rfl
  show Scalar.select _ _ _ = _
  rw [hin]
  show Host.gather gather_S257_S1048576x1_S1048576_n_0_n_n_0_1_1 t (column idx) i = _
  obtain ⟨p, rfl⟩ : ∃ p : Fin 1048576, i = Shape.Idx.ofFin p := ⟨i 0, Shape.Idx.eq_ofFin i⟩
  refine (gather_take (N := 257) (n := 1048576) gather_S257_S1048576x1_S1048576_n_0_n_n_0_1_1 rfl rfl rfl rfl t (column idx) p (by decide)).trans ?_
  have hp := hb (Shape.Idx.ofFin p)
  have hv : min (column idx (ixP p)).toInt.toNat (257 - 1) = n (Shape.Idx.ofFin p) := by
    rw [column_apply hn hb, toInt_ofNat_small _ (by omega)]
    omega
  exact congrArg t (congrArg Shape.Idx.ofFin (Fin.ext hv))

/-- The table as a function of its entry number. -/
def entry (t : FVec F S257 .f32) (q : Fin 257) : F .f32 := t (Shape.Idx.ofFin q)

theorem counts_apply (t : FVec Ideal S257 .f32) (u : FVec Ideal S1048576 .f32) (i : S1048576.Idx) :
    counts t u i = BitVec.ofNat 32 (below (entry t) (u i)) := by
  obtain ⟨p, rfl⟩ : ∃ p : Fin 1048576, i = Shape.Idx.ofFin p := ⟨i 0, Shape.Idx.eq_ofFin i⟩
  apply BitVec.eq_of_toNat_eq
  have hb := below_le (entry t) (u (Shape.Idx.ofFin p))
  rw [BitVec.toNat_ofNat, Nat.mod_eq_of_lt (by omega)]
  refine (toNat_reduce_count_cols (n := 1048576) (m := 257) (by omega) _ _ _ _ (Shape.Idx.ofFin p)).trans ?_
  unfold below
  refine congrArg Finset.card (Finset.filter_congr fun q _ => ?_)
  rw [← olt_iff, Shape.Idx.ofFin_zero]
  have e1 : broadcastInDim S1048576x257 ![0, 1] bcast_S1x257_S1048576x257_0_1 (broadcastInDim S1x257 ![1] bcast_S257_S1x257_1 t) (ij p q) = entry t q :=
    bcast_cols _ _ t p q
  have e2 : broadcastInDim S1048576x257 ![0, 1] bcast_S1048576x1_S1048576x257_0_1 (broadcastInDim S1048576x1 ![0] bcast_S1048576_S1048576x1_0 u) (ij p q)
      = u (Shape.Idx.ofFin p) := bcast_rows _ _ u p q
  unfold cmpf
  rw [e1, e2]

theorem offs_apply (t : FVec Ideal S257 .f32) (u : FVec Ideal S1048576 .f32) (i : S1048576.Idx) :
    offs t u i = BitVec.ofNat 32 (min (below (entry t) (u i)) 255) := by
  have e : offs t u i = IntOp.minsi (255#32) (IntOp.maxsi (0#32) (counts t u i)) := rfl
  rw [e, counts_apply]
  have hb := below_le (entry t) (u i)
  have hw := clip_word (n := below (entry t) (u i)) (by omega)
  rwa [show pos (below (entry t) (u i)) + 1#32 = BitVec.ofNat 32 (below (entry t) (u i)) from BitVec.sub_add_cancel _ _] at hw

/-- The reference's result at an input. -/
theorem value_apply (t : FVec Ideal S257 .f32) (u : FVec Ideal S1048576 .f32) (i : S1048576.Idx) :
    value t u i = Search.interp (min (below (entry t) (u i)) 255)
      (entry t ⟨min (below (entry t) (u i)) 255, by omega⟩) (entry t ⟨min (below (entry t) (u i)) 255 + 1, by omega⟩) (u i) := by
  have h0 : taken t (offs t u) i = entry t ⟨min (below (entry t) (u i)) 255, by omega⟩ := taken_apply t (n := fun i => min (below (entry t) (u i)) 255) (offs_apply t u) (fun i => by omega) i
  have h1 : taken t (addi (offs t u) (broadcastInDim S1048576 ![] bcast_S_S1048576 (constantI S_ 32 1#32))) i
      = entry t ⟨min (below (entry t) (u i)) 255 + 1, by omega⟩ := taken_apply t
    (n := fun i => min (below (entry t) (u i)) 255 + 1)
    (fun i => by
      show offs t u i + 1#32 = _
      rw [offs_apply, BitVec.ofNat_add]) (fun i => by omega) i
  rw [interp_eq_div]
  unfold value mixed
  rw [← offs_apply t u i]
  rw [← h0, ← h1]
  rfl

/-- A table the precondition accepts does not decrease. -/
theorem monotone_of_pre {a b : FVec Ideal S1048576 .f32} {t : FVec Ideal S257 .f32} {d : FVec Ideal Cert.Pre_cdf_sorted.S256 .f32}
    (h : Cert.Pre_cdf_sorted.fn (F := Ideal) a b t d = fun _ => 1#1) : Monotone (entry t) := by
  refine Fin.monotone_iff_le_succ.mpr fun q => ?_
  have : Subsingleton Cert.Pre_cdf_sorted.S_.Idx := ⟨fun _ _ => funext fun a => a.elim0⟩
  have hq := Host.reduce_andi_all _ _ _ _ _ (congrFun h fun a => a.elim0) (Shape.Idx.ofFin q)
  have hle := (ole_iff _ _).mp hq
  unfold extractStridedSlice at hle
  unfold entry
  convert hle using 2 <;> (funext a; apply Fin.ext; obtain rfl : a = 0 := Fin.eq_zero a; simp [Shape.Idx.ofFin]; try omega)

end Cert.Proof.Reference

end
-- ==== Proof.Value.lean ====
/-
  The kernel's results are the reference's, over the extended reals, for a table that does not decrease: at every input
  both are `interp` of the same cell and of the same two entries.
-/
module

public import proofs.«01_k».proof.Proof.KernelIdealLaunch
public import proofs.«01_k».proof.Proof.Reference
public import Idealize.ShloMosaic.Lib.Pipeline.Value

@[expose] public section

noncomputable section

namespace Cert.Proof.Value

open Cert.Search Cert.Counting Cert.Proof.Reference
open Idealize.ShloMosaic

/-- The padded table's first 257 entries are the table's. -/
theorem padded_entry {F : FTy → Type} [FloatOps F] (t : Cert.KernelIdeal.S257.Idx → F .f32) (j : Fin 257) :
    Cert.Proof.KernelIdeal.tabN (Cert.Proof.KernelIdeal.padded t) j.val = entry t j := by
  unfold Cert.Proof.KernelIdeal.tabN Cert.Proof.KernelIdeal.padded entry
  refine concatenate_pair_apply_left (t := Cert.KernelIdeal.S512) (s₁ := Cert.KernelIdeal.S257) (s₂ := Cert.KernelIdeal.S255) (0 : Fin 1) t _
    Cert.KernelIdeal.Gen.concatenates_S257_S255_S512_d0 _ rfl (Shape.Idx.ofFin j) fun b => ?_
  exact (Nat.mod_eq_of_lt (Nat.lt_trans j.isLt (by decide))).symm

/-- For a table that does not decrease, the kernel's whole array of results is the reference's. -/
theorem results_eq (t : FVec Ideal Cert.KernelIdeal.S257 .f32) (ht : Monotone (entry t)) (u : FVec Ideal Cert.KernelIdeal.S1048576 .f32) :
    Cert.Proof.KernelIdeal.results (Cert.Proof.KernelIdeal.padded t) u = value t u := by
  funext i
  have hc := cell_eq_count ht (padded_entry t) (u i)
  have h0 := padded_entry t ⟨min (below (entry t) (u i)) 255, by omega⟩
  have h1 := padded_entry t ⟨min (below (entry t) (u i)) 255 + 1, by omega⟩
  rw [value_apply]
  unfold Cert.Proof.KernelIdeal.results lane
  rw [hc, h0, h1]

end Cert.Proof.Value

end
-- ==== Proof.lean ====
/-
  The proof of `Cert.Claim`: both readings of the kernel run to the end, leave the arguments as they were and every
  semaphore counter at zero, and so does the reference; and over the extended reals, for a table that does not decrease,
  the kernel's result array is the reference's at every element.
-/
module

public import proofs.«01_k».proof.Defs
public import proofs.«01_k».proof.Proof.KernelLaunch
public import proofs.«01_k».proof.Proof.Value
public import Idealize.ShloMosaic.Lib.Quiescent

@[expose] public section

noncomputable section

namespace Cert.Proof

open Idealize.ShloMosaic Idealize.SL.Sem

/-- The kernel's frame. -/
theorem frame_kernel : Cert.quiescent_Kernel := fun m g _ =>
  (θ_run Cert.Kernel.defs _ _).mono (fun _ h => ⟨fun c => ⟨(h.1 c).1, (h.1 c).2.1, (h.1 c).2.2.1, (h.1 c).2.2.2.1⟩, h.2⟩)
    (Kernel.run_main (F := Bits) m g)

/-- The frame of the kernel over the extended reals. -/
theorem frame_kernel_ideal : Cert.quiescent_KernelIdeal := fun m g _ =>
  (θ_run Cert.KernelIdeal.defs _ _).mono (fun _ h => ⟨fun c => ⟨(h.1 c).1, (h.1 c).2.1, (h.1 c).2.2.1, (h.1 c).2.2.2.1⟩, h.2⟩)
    (KernelIdeal.run_main (F := Ideal) m g)

/-- The frame of the reference over the extended reals. -/
theorem frame_reference_ideal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, for a table that does not decrease, the kernel's result array is the reference's. -/
theorem algebraic : Cert.algebraic_KernelIdeal_ReferenceIdeal_pre_cdf_sorted := by
  intro m g m' g' hpre hargs
  refine ⟨fun c => KernelIdeal.outs m c, (θ_run Cert.KernelIdeal.defs _ _).mono (fun _ h c => ?_) (KernelIdeal.run_main (F := Ideal) m g),
    (θ_run Cert.ReferenceIdeal.defs _ _).mono (fun _ h c => ⟨(h c).1.trans ?_, (h c).2⟩) (Cert.ReferenceIdeal.Value.run (F := Ideal) m' g')⟩
  · obtain ⟨e0, e1, e2, e3, e4⟩ := h.1 c
    exact ⟨e4, e0, e1, e2, e3⟩
  · refine (Reference.result_eq m' c).trans ?_
    rw [(hargs c).1, (hargs c).2.2.1]
    exact (Value.results_eq _ (Reference.monotone_of_pre (hpre c)) _).symm

/-- All five claims. -/
theorem claim : Cert.Claim :=
  ⟨Cert.Kernel.Gen.facts, Cert.KernelIdeal.Gen.facts, Cert.ReferenceIdeal.Gen.facts, Cert.Pre_cdf_sorted.Gen.facts,
    frame_kernel, frame_kernel_ideal, fun m g _ => frame_kernel_ideal m g trivial, frame_reference_ideal,
    fun m g _ => frame_reference_ideal m g trivial, trivial, algebraic⟩

end Cert.Proof

end
